-- ==== Defs.lean ====
def Pre_Kernel [hPre_band0 : Cert.Pre_band0.Facts] (m : (ℓ : Loc Cert.Kernel.nD Cert.Kernel.τ Cert.Kernel.sig) → Buf (Elt Bits) ℓ) : Prop :=
  ∀ c : Dev Cert.Kernel.nD,
    (Cert.Pre_band0.fn (F := Bits) (m ((c.tc : Thread Cert.Kernel.nD Cert.Kernel.τ).loc Cert.Kernel.main_arg0)) (m ((c.tc : Thread Cert.Kernel.nD Cert.Kernel.τ).loc Cert.Kernel.main_arg1))).1 = (fun _ => 1#1)
    ∧ (Cert.Pre_band0.fn (F := Bits) (m ((c.tc : Thread Cert.Kernel.nD Cert.Kernel.τ).loc Cert.Kernel.main_arg0)) (m ((c.tc : Thread Cert.Kernel.nD Cert.Kernel.τ).loc Cert.Kernel.main_arg1))).2.1 = (fun _ => 1#1)
    ∧ (Cert.Pre_band0.fn (F := Bits) (m ((c.tc : Thread Cert.Kernel.nD Cert.Kernel.τ).loc Cert.Kernel.main_arg0)) (m ((c.tc : Thread Cert.Kernel.nD Cert.Kernel.τ).loc Cert.Kernel.main_arg1))).2.2.1 = (fun _ => 1#1)
    ∧ (Cert.Pre_band0.fn (F := Bits) (m ((c.tc : Thread Cert.Kernel.nD Cert.Kernel.τ).loc Cert.Kernel.main_arg0)) (m ((c.tc : Thread Cert.Kernel.nD Cert.Kernel.τ).loc Cert.Kernel.main_arg1))).2.2.2 = (fun _ => 1#1)

def Pre_Kernel_band1 [hPre_band1 : Cert.Pre_band1.Facts] (m : (ℓ : Loc Cert.Kernel.nD Cert.Kernel.τ Cert.Kernel.sig) → Buf (Elt Bits) ℓ) : Prop :=
  ∀ c : Dev Cert.Kernel.nD,
    (Cert.Pre_band1.fn (F := Bits) (m ((c.tc : Thread Cert.Kernel.nD Cert.Kernel.τ).loc Cert.Kernel.main_arg0)) (m ((c.tc : Thread Cert.Kernel.nD Cert.Kernel.τ).loc Cert.Kernel.main_arg1))).1 = (fun _ => 1#1)
    ∧ (Cert.Pre_band1.fn (F := Bits) (m ((c.tc : Thread Cert.Kernel.nD Cert.Kernel.τ).loc Cert.Kernel.main_arg0)) (m ((c.tc : Thread Cert.Kernel.nD Cert.Kernel.τ).loc Cert.Kernel.main_arg1))).2.1 = (fun _ => 1#1)
    ∧ (Cert.Pre_band1.fn (F := Bits) (m ((c.tc : Thread Cert.Kernel.nD Cert.Kernel.τ).loc Cert.Kernel.main_arg0)) (m ((c.tc : Thread Cert.Kernel.nD Cert.Kernel.τ).loc Cert.Kernel.main_arg1))).2.2.1 = (fun _ => 1#1)
    ∧ (Cert.Pre_band1.fn (F := Bits) (m ((c.tc : Thread Cert.Kernel.nD Cert.Kernel.τ).loc Cert.Kernel.main_arg0)) (m ((c.tc : Thread Cert.Kernel.nD Cert.Kernel.τ).loc Cert.Kernel.main_arg1))).2.2.2 = (fun _ => 1#1)

def Pre_Kernel_band2 [hPre_band2 : Cert.Pre_band2.Facts] (m : (ℓ : Loc Cert.Kernel.nD Cert.Kernel.τ Cert.Kernel.sig) → Buf (Elt Bits) ℓ) : Prop :=
  ∀ c : Dev Cert.Kernel.nD,
    (Cert.Pre_band2.fn (F := Bits) (m ((c.tc : Thread Cert.Kernel.nD Cert.Kernel.τ).loc Cert.Kernel.main_arg0)) (m ((c.tc : Thread Cert.Kernel.nD Cert.Kernel.τ).loc Cert.Kernel.main_arg1))).1 = (fun _ => 1#1)
    ∧ (Cert.Pre_band2.fn (F := Bits) (m ((c.tc : Thread Cert.Kernel.nD Cert.Kernel.τ).loc Cert.Kernel.main_arg0)) (m ((c.tc : Thread Cert.Kernel.nD Cert.Kernel.τ).loc Cert.Kernel.main_arg1))).2.1 = (fun _ => 1#1)
    ∧ (Cert.Pre_band2.fn (F := Bits) (m ((c.tc : Thread Cert.Kernel.nD Cert.Kernel.τ).loc Cert.Kernel.main_arg0)) (m ((c.tc : Thread Cert.Kernel.nD Cert.Kernel.τ).loc Cert.Kernel.main_arg1))).2.2.1 = (fun _ => 1#1)
    ∧ (Cert.Pre_band2.fn (F := Bits) (m ((c.tc : Thread Cert.Kernel.nD Cert.Kernel.τ).loc Cert.Kernel.main_arg0)) (m ((c.tc : Thread Cert.Kernel.nD Cert.Kernel.τ).loc Cert.Kernel.main_arg1))).2.2.2 = (fun _ => 1#1)

def Pre_Kernel_band3 [hPre_band3 : Cert.Pre_band3.Facts] (m : (ℓ : Loc Cert.Kernel.nD Cert.Kernel.τ Cert.Kernel.sig) → Buf (Elt Bits) ℓ) : Prop :=
  ∀ c : Dev Cert.Kernel.nD,
    (Cert.Pre_band3.fn (F := Bits) (m ((c.tc : Thread Cert.Kernel.nD Cert.Kernel.τ).loc Cert.Kernel.main_arg0)) (m ((c.tc : Thread Cert.Kernel.nD Cert.Kernel.τ).loc Cert.Kernel.main_arg1))).1 = (fun _ => 1#1)
    ∧ (Cert.Pre_band3.fn (F := Bits) (m ((c.tc : Thread Cert.Kernel.nD Cert.Kernel.τ).loc Cert.Kernel.main_arg0)) (m ((c.tc : Thread Cert.Kernel.nD Cert.Kernel.τ).loc Cert.Kernel.main_arg1))).2.1 = (fun _ => 1#1)
    ∧ (Cert.Pre_band3.fn (F := Bits) (m ((c.tc : Thread Cert.Kernel.nD Cert.Kernel.τ).loc Cert.Kernel.main_arg0)) (m ((c.tc : Thread Cert.Kernel.nD Cert.Kernel.τ).loc Cert.Kernel.main_arg1))).2.2.1 = (fun _ => 1#1)
    ∧ (Cert.Pre_band3.fn (F := Bits) (m ((c.tc : Thread Cert.Kernel.nD Cert.Kernel.τ).loc Cert.Kernel.main_arg0)) (m ((c.tc : Thread Cert.Kernel.nD Cert.Kernel.τ).loc Cert.Kernel.main_arg1))).2.2.2 = (fun _ => 1#1)

def Pre_Kernel_band4 [hPre_band4 : Cert.Pre_band4.Facts] (m : (ℓ : Loc Cert.Kernel.nD Cert.Kernel.τ Cert.Kernel.sig) → Buf (Elt Bits) ℓ) : Prop :=
  ∀ c : Dev Cert.Kernel.nD,
    (Cert.Pre_band4.fn (F := Bits) (m ((c.tc : Thread Cert.Kernel.nD Cert.Kernel.τ).loc Cert.Kernel.main_arg0)) (m ((c.tc : Thread Cert.Kernel.nD Cert.Kernel.τ).loc Cert.Kernel.main_arg1))).1 = (fun _ => 1#1)
    ∧ (Cert.Pre_band4.fn (F := Bits) (m ((c.tc : Thread Cert.Kernel.nD Cert.Kernel.τ).loc Cert.Kernel.main_arg0)) (m ((c.tc : Thread Cert.Kernel.nD Cert.Kernel.τ).loc Cert.Kernel.main_arg1))).2.1 = (fun _ => 1#1)
    ∧ (Cert.Pre_band4.fn (F := Bits) (m ((c.tc : Thread Cert.Kernel.nD Cert.Kernel.τ).loc Cert.Kernel.main_arg0)) (m ((c.tc : Thread Cert.Kernel.nD Cert.Kernel.τ).loc Cert.Kernel.main_arg1))).2.2.1 = (fun _ => 1#1)
    ∧ (Cert.Pre_band4.fn (F := Bits) (m ((c.tc : Thread Cert.Kernel.nD Cert.Kernel.τ).loc Cert.Kernel.main_arg0)) (m ((c.tc : Thread Cert.Kernel.nD Cert.Kernel.τ).loc Cert.Kernel.main_arg1))).2.2.2 = (fun _ => 1#1)

def Pre_KernelIdeal [hPre_band0 : Cert.Pre_band0.Facts] (m : (ℓ : Loc Cert.KernelIdeal.nD Cert.KernelIdeal.τ Cert.KernelIdeal.sig) → Buf (Elt Ideal) ℓ) : Prop :=
  ∀ c : Dev Cert.KernelIdeal.nD,
    (Cert.Pre_band0.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_band0.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 = (fun _ => 1#1)
    ∧ (Cert.Pre_band0.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.1 = (fun _ => 1#1)
    ∧ (Cert.Pre_band0.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2 = (fun _ => 1#1)

def Pre_KernelIdeal_band1 [hPre_band1 : Cert.Pre_band1.Facts] (m : (ℓ : Loc Cert.KernelIdeal.nD Cert.KernelIdeal.τ Cert.KernelIdeal.sig) → Buf (Elt Ideal) ℓ) : Prop :=
  ∀ c : Dev Cert.KernelIdeal.nD,
    (Cert.Pre_band1.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_band1.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 = (fun _ => 1#1)
    ∧ (Cert.Pre_band1.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.1 = (fun _ => 1#1)
    ∧ (Cert.Pre_band1.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2 = (fun _ => 1#1)

def Pre_KernelIdeal_band2 [hPre_band2 : Cert.Pre_band2.Facts] (m : (ℓ : Loc Cert.KernelIdeal.nD Cert.KernelIdeal.τ Cert.KernelIdeal.sig) → Buf (Elt Ideal) ℓ) : Prop :=
  ∀ c : Dev Cert.KernelIdeal.nD,
    (Cert.Pre_band2.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_band2.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 = (fun _ => 1#1)
    ∧ (Cert.Pre_band2.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.1 = (fun _ => 1#1)
    ∧ (Cert.Pre_band2.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2 = (fun _ => 1#1)

def Pre_KernelIdeal_band3 [hPre_band3 : Cert.Pre_band3.Facts] (m : (ℓ : Loc Cert.KernelIdeal.nD Cert.KernelIdeal.τ Cert.KernelIdeal.sig) → Buf (Elt Ideal) ℓ) : Prop :=
  ∀ c : Dev Cert.KernelIdeal.nD,
    (Cert.Pre_band3.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_band3.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 = (fun _ => 1#1)
    ∧ (Cert.Pre_band3.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.1 = (fun _ => 1#1)
    ∧ (Cert.Pre_band3.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2 = (fun _ => 1#1)

def Pre_KernelIdeal_band4 [hPre_band4 : Cert.Pre_band4.Facts] (m : (ℓ : Loc Cert.KernelIdeal.nD Cert.KernelIdeal.τ Cert.KernelIdeal.sig) → Buf (Elt Ideal) ℓ) : Prop :=
  ∀ c : Dev Cert.KernelIdeal.nD,
    (Cert.Pre_band4.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_band4.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 = (fun _ => 1#1)
    ∧ (Cert.Pre_band4.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.1 = (fun _ => 1#1)
    ∧ (Cert.Pre_band4.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2 = (fun _ => 1#1)

def Pre_KernelIdeal_even0_KernelIdeal [hPre_even0_KernelIdeal : Cert.Pre_even0_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_even0_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_even0_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 = (fun _ => 1#1)
    ∧ (Cert.Pre_even0_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.1 = (fun _ => 1#1)
    ∧ (Cert.Pre_even0_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.1 = (fun _ => 1#1)
    ∧ (Cert.Pre_even0_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.2.1 = (fun _ => 1#1)
    ∧ (Cert.Pre_even0_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.2.2.1 = (fun _ => 1#1)
    ∧ (Cert.Pre_even0_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.2.2.2 = (fun _ => 1#1)

def Pre_KernelIdeal_even1_KernelIdeal [hPre_even1_KernelIdeal : Cert.Pre_even1_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_even1_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_even1_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 = (fun _ => 1#1)
    ∧ (Cert.Pre_even1_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.1 = (fun _ => 1#1)
    ∧ (Cert.Pre_even1_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.1 = (fun _ => 1#1)
    ∧ (Cert.Pre_even1_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.2.1 = (fun _ => 1#1)
    ∧ (Cert.Pre_even1_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.2.2.1 = (fun _ => 1#1)
    ∧ (Cert.Pre_even1_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.2.2.2 = (fun _ => 1#1)

def Pre_KernelIdeal_even2_KernelIdeal [hPre_even2_KernelIdeal : Cert.Pre_even2_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_even2_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_even2_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 = (fun _ => 1#1)
    ∧ (Cert.Pre_even2_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.1 = (fun _ => 1#1)
    ∧ (Cert.Pre_even2_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.1 = (fun _ => 1#1)
    ∧ (Cert.Pre_even2_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.2.1 = (fun _ => 1#1)
    ∧ (Cert.Pre_even2_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.2.2.1 = (fun _ => 1#1)
    ∧ (Cert.Pre_even2_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.2.2.2 = (fun _ => 1#1)

def Pre_KernelIdeal_even3_KernelIdeal [hPre_even3_KernelIdeal : Cert.Pre_even3_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_even3_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_even3_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 = (fun _ => 1#1)
    ∧ (Cert.Pre_even3_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.1 = (fun _ => 1#1)
    ∧ (Cert.Pre_even3_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.1 = (fun _ => 1#1)
    ∧ (Cert.Pre_even3_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.2.1 = (fun _ => 1#1)
    ∧ (Cert.Pre_even3_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.2.2.1 = (fun _ => 1#1)
    ∧ (Cert.Pre_even3_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.2.2.2 = (fun _ => 1#1)

def Pre_KernelIdeal_even4_KernelIdeal [hPre_even4_KernelIdeal : Cert.Pre_even4_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_even4_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_even4_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 = (fun _ => 1#1)
    ∧ (Cert.Pre_even4_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.1 = (fun _ => 1#1)
    ∧ (Cert.Pre_even4_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.1 = (fun _ => 1#1)
    ∧ (Cert.Pre_even4_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.2.1 = (fun _ => 1#1)
    ∧ (Cert.Pre_even4_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.2.2.1 = (fun _ => 1#1)
    ∧ (Cert.Pre_even4_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_even0_ReferenceIdeal [hPre_even0_ReferenceIdeal : Cert.Pre_even0_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_even0_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_even0_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.1 = (fun _ => 1#1)
    ∧ (Cert.Pre_even0_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.1 = (fun _ => 1#1)
    ∧ (Cert.Pre_even0_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.2.1 = (fun _ => 1#1)
    ∧ (Cert.Pre_even0_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.2.2.1 = (fun _ => 1#1)
    ∧ (Cert.Pre_even0_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.2.2.2.1 = (fun _ => 1#1)
    ∧ (Cert.Pre_even0_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.2.2.2.2 = (fun _ => 1#1)

def Pre_ReferenceIdeal_even1_ReferenceIdeal [hPre_even1_ReferenceIdeal : Cert.Pre_even1_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_even1_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_even1_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.1 = (fun _ => 1#1)
    ∧ (Cert.Pre_even1_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.1 = (fun _ => 1#1)
    ∧ (Cert.Pre_even1_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.2.1 = (fun _ => 1#1)
    ∧ (Cert.Pre_even1_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.2.2.1 = (fun _ => 1#1)
    ∧ (Cert.Pre_even1_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.2.2.2.1 = (fun _ => 1#1)
    ∧ (Cert.Pre_even1_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.2.2.2.2 = (fun _ => 1#1)

def Pre_ReferenceIdeal_even2_ReferenceIdeal [hPre_even2_ReferenceIdeal : Cert.Pre_even2_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_even2_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_even2_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.1 = (fun _ => 1#1)
    ∧ (Cert.Pre_even2_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.1 = (fun _ => 1#1)
    ∧ (Cert.Pre_even2_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.2.1 = (fun _ => 1#1)
    ∧ (Cert.Pre_even2_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.2.2.1 = (fun _ => 1#1)
    ∧ (Cert.Pre_even2_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.2.2.2.1 = (fun _ => 1#1)
    ∧ (Cert.Pre_even2_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.2.2.2.2 = (fun _ => 1#1)

def Pre_ReferenceIdeal_even3_ReferenceIdeal [hPre_even3_ReferenceIdeal : Cert.Pre_even3_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_even3_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_even3_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.1 = (fun _ => 1#1)
    ∧ (Cert.Pre_even3_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.1 = (fun _ => 1#1)
    ∧ (Cert.Pre_even3_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.2.1 = (fun _ => 1#1)
    ∧ (Cert.Pre_even3_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.2.2.1 = (fun _ => 1#1)
    ∧ (Cert.Pre_even3_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.2.2.2.1 = (fun _ => 1#1)
    ∧ (Cert.Pre_even3_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.2.2.2.2 = (fun _ => 1#1)

def Pre_ReferenceIdeal_even4_ReferenceIdeal [hPre_even4_ReferenceIdeal : Cert.Pre_even4_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_even4_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_even4_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.1 = (fun _ => 1#1)
    ∧ (Cert.Pre_even4_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.1 = (fun _ => 1#1)
    ∧ (Cert.Pre_even4_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.2.1 = (fun _ => 1#1)
    ∧ (Cert.Pre_even4_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.2.2.1 = (fun _ => 1#1)
    ∧ (Cert.Pre_even4_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.2.2.2.1 = (fun _ => 1#1)
    ∧ (Cert.Pre_even4_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.2.2.2.2 = (fun _ => 1#1)

def quiescent_Kernel [hKernel : Cert.Kernel.Facts] [hPre_band0 : Cert.Pre_band0.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_band1 [hKernel : Cert.Kernel.Facts] [hPre_band1 : Cert.Pre_band1.Facts] : Prop :=
  ∀ (m : (ℓ : Loc Cert.Kernel.nD Cert.Kernel.τ Cert.Kernel.sig) → Buf (Elt Bits) ℓ) (g : Dev Cert.Kernel.nD → PrngReg), Pre_Kernel_band1 m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_band2 [hKernel : Cert.Kernel.Facts] [hPre_band2 : Cert.Pre_band2.Facts] : Prop :=
  ∀ (m : (ℓ : Loc Cert.Kernel.nD Cert.Kernel.τ Cert.Kernel.sig) → Buf (Elt Bits) ℓ) (g : Dev Cert.Kernel.nD → PrngReg), Pre_Kernel_band2 m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_band3 [hKernel : Cert.Kernel.Facts] [hPre_band3 : Cert.Pre_band3.Facts] : Prop :=
  ∀ (m : (ℓ : Loc Cert.Kernel.nD Cert.Kernel.τ Cert.Kernel.sig) → Buf (Elt Bits) ℓ) (g : Dev Cert.Kernel.nD → PrngReg), Pre_Kernel_band3 m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_band4 [hKernel : Cert.Kernel.Facts] [hPre_band4 : Cert.Pre_band4.Facts] : Prop :=
  ∀ (m : (ℓ : Loc Cert.Kernel.nD Cert.Kernel.τ Cert.Kernel.sig) → Buf (Elt Bits) ℓ) (g : Dev Cert.Kernel.nD → PrngReg), Pre_Kernel_band4 m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_band0 : Cert.Pre_band0.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_band1 [hKernelIdeal : Cert.KernelIdeal.Facts] [hPre_band1 : Cert.Pre_band1.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_band1 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_band2 [hKernelIdeal : Cert.KernelIdeal.Facts] [hPre_band2 : Cert.Pre_band2.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_band2 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_band3 [hKernelIdeal : Cert.KernelIdeal.Facts] [hPre_band3 : Cert.Pre_band3.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_band3 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_band4 [hKernelIdeal : Cert.KernelIdeal.Facts] [hPre_band4 : Cert.Pre_band4.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_band4 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_even0_KernelIdeal [hKernelIdeal : Cert.KernelIdeal.Facts] [hPre_even0_KernelIdeal : Cert.Pre_even0_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_even0_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_even1_KernelIdeal [hKernelIdeal : Cert.KernelIdeal.Facts] [hPre_even1_KernelIdeal : Cert.Pre_even1_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_even1_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_even2_KernelIdeal [hKernelIdeal : Cert.KernelIdeal.Facts] [hPre_even2_KernelIdeal : Cert.Pre_even2_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_even2_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_even3_KernelIdeal [hKernelIdeal : Cert.KernelIdeal.Facts] [hPre_even3_KernelIdeal : Cert.Pre_even3_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_even3_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_even4_KernelIdeal [hKernelIdeal : Cert.KernelIdeal.Facts] [hPre_even4_KernelIdeal : Cert.Pre_even4_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_even4_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_even0_ReferenceIdeal [hReferenceIdeal : Cert.ReferenceIdeal.Facts] [hPre_even0_ReferenceIdeal : Cert.Pre_even0_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_even0_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_even1_ReferenceIdeal [hReferenceIdeal : Cert.ReferenceIdeal.Facts] [hPre_even1_ReferenceIdeal : Cert.Pre_even1_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_even1_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_even2_ReferenceIdeal [hReferenceIdeal : Cert.ReferenceIdeal.Facts] [hPre_even2_ReferenceIdeal : Cert.Pre_even2_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_even2_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_even3_ReferenceIdeal [hReferenceIdeal : Cert.ReferenceIdeal.Facts] [hPre_even3_ReferenceIdeal : Cert.Pre_even3_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_even3_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_even4_ReferenceIdeal [hReferenceIdeal : Cert.ReferenceIdeal.Facts] [hPre_even4_ReferenceIdeal : Cert.Pre_even4_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_even4_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_even0_KernelIdeal [hKernelIdeal : Cert.KernelIdeal.Facts] [hReferenceIdeal : Cert.ReferenceIdeal.Facts] [hPre_even0_KernelIdeal : Cert.Pre_even0_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_even0_KernelIdeal m →
    (∀ c : Dev Cert.KernelIdeal.nD,
      m ((c.tc : Thread Cert.KernelIdeal.nD Cert.KernelIdeal.τ).loc Cert.KernelIdeal.main_arg0) = Layout.blockN ⟨2, ![512, 256]⟩ ⟨2, ![1024, 256]⟩ (Layout.meshBlock [2, 2, 4] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = Layout.blockN ⟨2, ![512, 256]⟩ ⟨2, ![1024, 256]⟩ (Layout.meshBlock [2, 2, 4] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_even1_KernelIdeal [hKernelIdeal : Cert.KernelIdeal.Facts] [hReferenceIdeal : Cert.ReferenceIdeal.Facts] [hPre_even1_KernelIdeal : Cert.Pre_even1_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_even1_KernelIdeal m →
    (∀ c : Dev Cert.KernelIdeal.nD,
      m ((c.tc : Thread Cert.KernelIdeal.nD Cert.KernelIdeal.τ).loc Cert.KernelIdeal.main_arg0) = Layout.blockN ⟨2, ![512, 256]⟩ ⟨2, ![1024, 256]⟩ (Layout.meshBlock [2, 2, 4] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = Layout.blockN ⟨2, ![512, 256]⟩ ⟨2, ![1024, 256]⟩ (Layout.meshBlock [2, 2, 4] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_even2_KernelIdeal [hKernelIdeal : Cert.KernelIdeal.Facts] [hReferenceIdeal : Cert.ReferenceIdeal.Facts] [hPre_even2_KernelIdeal : Cert.Pre_even2_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_even2_KernelIdeal m →
    (∀ c : Dev Cert.KernelIdeal.nD,
      m ((c.tc : Thread Cert.KernelIdeal.nD Cert.KernelIdeal.τ).loc Cert.KernelIdeal.main_arg0) = Layout.blockN ⟨2, ![512, 256]⟩ ⟨2, ![1024, 256]⟩ (Layout.meshBlock [2, 2, 4] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = Layout.blockN ⟨2, ![512, 256]⟩ ⟨2, ![1024, 256]⟩ (Layout.meshBlock [2, 2, 4] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_even3_KernelIdeal [hKernelIdeal : Cert.KernelIdeal.Facts] [hReferenceIdeal : Cert.ReferenceIdeal.Facts] [hPre_even3_KernelIdeal : Cert.Pre_even3_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_even3_KernelIdeal m →
    (∀ c : Dev Cert.KernelIdeal.nD,
      m ((c.tc : Thread Cert.KernelIdeal.nD Cert.KernelIdeal.τ).loc Cert.KernelIdeal.main_arg0) = Layout.blockN ⟨2, ![512, 256]⟩ ⟨2, ![1024, 256]⟩ (Layout.meshBlock [2, 2, 4] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = Layout.blockN ⟨2, ![512, 256]⟩ ⟨2, ![1024, 256]⟩ (Layout.meshBlock [2, 2, 4] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_even4_KernelIdeal [hKernelIdeal : Cert.KernelIdeal.Facts] [hReferenceIdeal : Cert.ReferenceIdeal.Facts] [hPre_even4_KernelIdeal : Cert.Pre_even4_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_even4_KernelIdeal m →
    (∀ c : Dev Cert.KernelIdeal.nD,
      m ((c.tc : Thread Cert.KernelIdeal.nD Cert.KernelIdeal.τ).loc Cert.KernelIdeal.main_arg0) = Layout.blockN ⟨2, ![512, 256]⟩ ⟨2, ![1024, 256]⟩ (Layout.meshBlock [2, 2, 4] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = Layout.blockN ⟨2, ![512, 256]⟩ ⟨2, ![1024, 256]⟩ (Layout.meshBlock [2, 2, 4] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_band0 : Cert.Pre_band0.Facts) (hPre_band1 : Cert.Pre_band1.Facts) (hPre_band2 : Cert.Pre_band2.Facts) (hPre_band3 : Cert.Pre_band3.Facts) (hPre_band4 : Cert.Pre_band4.Facts) (hPre_even0_KernelIdeal : Cert.Pre_even0_KernelIdeal.Facts) (hPre_even1_KernelIdeal : Cert.Pre_even1_KernelIdeal.Facts) (hPre_even2_KernelIdeal : Cert.Pre_even2_KernelIdeal.Facts) (hPre_even3_KernelIdeal : Cert.Pre_even3_KernelIdeal.Facts) (hPre_even4_KernelIdeal : Cert.Pre_even4_KernelIdeal.Facts) (hPre_even0_ReferenceIdeal : Cert.Pre_even0_ReferenceIdeal.Facts) (hPre_even1_ReferenceIdeal : Cert.Pre_even1_ReferenceIdeal.Facts) (hPre_even2_ReferenceIdeal : Cert.Pre_even2_ReferenceIdeal.Facts) (hPre_even3_ReferenceIdeal : Cert.Pre_even3_ReferenceIdeal.Facts) (hPre_even4_ReferenceIdeal : Cert.Pre_even4_ReferenceIdeal.Facts),
    quiescent_Kernel (hKernel := hKernel) (hPre_band0 := hPre_band0)
    ∧ quiescent_Kernel_pre_band1 (hKernel := hKernel) (hPre_band1 := hPre_band1)
    ∧ quiescent_Kernel_pre_band2 (hKernel := hKernel) (hPre_band2 := hPre_band2)
    ∧ quiescent_Kernel_pre_band3 (hKernel := hKernel) (hPre_band3 := hPre_band3)
    ∧ quiescent_Kernel_pre_band4 (hKernel := hKernel) (hPre_band4 := hPre_band4)
    ∧ quiescent_KernelIdeal (hKernelIdeal := hKernelIdeal) (hPre_band0 := hPre_band0)
    ∧ quiescent_KernelIdeal_pre_band1 (hKernelIdeal := hKernelIdeal) (hPre_band1 := hPre_band1)
    ∧ quiescent_KernelIdeal_pre_band2 (hKernelIdeal := hKernelIdeal) (hPre_band2 := hPre_band2)
    ∧ quiescent_KernelIdeal_pre_band3 (hKernelIdeal := hKernelIdeal) (hPre_band3 := hPre_band3)
    ∧ quiescent_KernelIdeal_pre_band4 (hKernelIdeal := hKernelIdeal) (hPre_band4 := hPre_band4)
    ∧ quiescent_KernelIdeal_pre_even0_KernelIdeal (hKernelIdeal := hKernelIdeal) (hPre_even0_KernelIdeal := hPre_even0_KernelIdeal)
    ∧ quiescent_KernelIdeal_pre_even1_KernelIdeal (hKernelIdeal := hKernelIdeal) (hPre_even1_KernelIdeal := hPre_even1_KernelIdeal)
    ∧ quiescent_KernelIdeal_pre_even2_KernelIdeal (hKernelIdeal := hKernelIdeal) (hPre_even2_KernelIdeal := hPre_even2_KernelIdeal)
    ∧ quiescent_KernelIdeal_pre_even3_KernelIdeal (hKernelIdeal := hKernelIdeal) (hPre_even3_KernelIdeal := hPre_even3_KernelIdeal)
    ∧ quiescent_KernelIdeal_pre_even4_KernelIdeal (hKernelIdeal := hKernelIdeal) (hPre_even4_KernelIdeal := hPre_even4_KernelIdeal)
    ∧ quiescent_ReferenceIdeal (hReferenceIdeal := hReferenceIdeal)
    ∧ quiescent_ReferenceIdeal_pre_even0_ReferenceIdeal (hReferenceIdeal := hReferenceIdeal) (hPre_even0_ReferenceIdeal := hPre_even0_ReferenceIdeal)
    ∧ quiescent_ReferenceIdeal_pre_even1_ReferenceIdeal (hReferenceIdeal := hReferenceIdeal) (hPre_even1_ReferenceIdeal := hPre_even1_ReferenceIdeal)
    ∧ quiescent_ReferenceIdeal_pre_even2_ReferenceIdeal (hReferenceIdeal := hReferenceIdeal) (hPre_even2_ReferenceIdeal := hPre_even2_ReferenceIdeal)
    ∧ quiescent_ReferenceIdeal_pre_even3_ReferenceIdeal (hReferenceIdeal := hReferenceIdeal) (hPre_even3_ReferenceIdeal := hPre_even3_ReferenceIdeal)
    ∧ quiescent_ReferenceIdeal_pre_even4_ReferenceIdeal (hReferenceIdeal := hReferenceIdeal) (hPre_even4_ReferenceIdeal := hPre_even4_ReferenceIdeal)
    ∧ preserves_Kernel_KernelIdeal
    ∧ algebraic_KernelIdeal_ReferenceIdeal_pre_even0_KernelIdeal (hKernelIdeal := hKernelIdeal) (hReferenceIdeal := hReferenceIdeal) (hPre_even0_KernelIdeal := hPre_even0_KernelIdeal)
    ∧ algebraic_KernelIdeal_ReferenceIdeal_pre_even1_KernelIdeal (hKernelIdeal := hKernelIdeal) (hReferenceIdeal := hReferenceIdeal) (hPre_even1_KernelIdeal := hPre_even1_KernelIdeal)
    ∧ algebraic_KernelIdeal_ReferenceIdeal_pre_even2_KernelIdeal (hKernelIdeal := hKernelIdeal) (hReferenceIdeal := hReferenceIdeal) (hPre_even2_KernelIdeal := hPre_even2_KernelIdeal)
    ∧ algebraic_KernelIdeal_ReferenceIdeal_pre_even3_KernelIdeal (hKernelIdeal := hKernelIdeal) (hReferenceIdeal := hReferenceIdeal) (hPre_even3_KernelIdeal := hPre_even3_KernelIdeal)
    ∧ algebraic_KernelIdeal_ReferenceIdeal_pre_even4_KernelIdeal (hKernelIdeal := hKernelIdeal) (hReferenceIdeal := hReferenceIdeal) (hPre_even4_KernelIdeal := hPre_even4_KernelIdeal)
-- ==== Pre_band0.lean ====
abbrev S512x256 : Shape := ⟨2, ![512, 256]⟩
abbrev S1024 : Shape := ⟨1, ![1024]⟩
abbrev S_ : Shape := ⟨0, ![]⟩
abbrev S512 : Shape := ⟨1, ![512]⟩

class Facts : Prop where
  bcast_S_S1024 : S_.BroadcastsInDim S1024 (![] : Fin 0 → Fin S1024.rank)
  slices_S1024_S512_0 : S1024.Slices ![0] S512
  reducesTo_S512_S_d0 : S512.ReducesTo [0] S_
  h_S_ : 0 < S_.numel
  slices_S1024_S512_512 : S1024.Slices ![512] S512

variable [Facts]

def fn_where {F : FTy → Type} [FloatOps F] (arg0 : IVec S1024 1) (arg1 : IVec S_ 32) (arg2 : IVec S_ 32) : IVec S1024 32 :=
  let v0 : IVec S1024 32 := broadcastInDim S1024 ![] bcast_S_S1024 arg1
  let v1 : IVec S1024 32 := broadcastInDim S1024 ![] bcast_S_S1024 arg2
  let v2 : IVec S1024 32 := select arg0 v0 v1
  v2

def fn {F : FTy → Type} [FloatOps F] (main_arg0 : FVec F S512x256 .bf16) (main_arg1 : IVec S1024 32) : IVec S_ 1 × IVec S_ 1 × IVec S_ 1 × IVec S_ 1 :=
  let main_c : IVec S_ 32 := constantI S_ 32 0#32
  let main_v0 : IVec S1024 32 := broadcastInDim S1024 ![] bcast_S_S1024 main_c
  let main_v1 : IVec S1024 1 := cmpi .eq main_arg1 main_v0
  let main_c_0 : IVec S_ 32 := constantI S_ 32 1#32
  let main_c_1 : IVec S_ 32 := constantI S_ 32 0#32
  let main_v2 : IVec S1024 32 := fn_where (F := F) main_v1 main_c_0 main_c_1
  let main_v3 : IVec S512 32 := (extractStridedSlice S512 ![0] · slices_S1024_S512_0) main_v2
  let main_v4 : IVec S512 32 := id main_v3
  let main_c_2 : IVec S_ 32 := constantI S_ 32 0#32
  let main_v5 : IVec S_ 32 := (fun x v => Host.reduce IntOp.addi x v reducesTo_S512_S_d0 h_S_) main_v4 main_c_2
  let main_v6 : IVec S512 32 := (extractStridedSlice S512 ![512] · slices_S1024_S512_512) main_v2
  let main_v7 : IVec S512 32 := id main_v6
  let main_c_3 : IVec S_ 32 := constantI S_ 32 0#32
  let main_v8 : IVec S_ 32 := (fun x v => Host.reduce IntOp.addi x v reducesTo_S512_S_d0 h_S_) main_v7 main_c_3
  let main_c_4 : IVec S_ 32 := constantI S_ 32 0#32
  let main_v9 : IVec S_ 1 := cmpi .sge main_v5 main_c_4
  let main_c_5 : IVec S_ 32 := constantI S_ 32 128#32
  let main_v10 : IVec S_ 1 := cmpi .slt main_v5 main_c_5
  let main_c_6 : IVec S_ 32 := constantI S_ 32 384#32
  let main_v11 : IVec S_ 1 := cmpi .sgt main_v8 main_c_6
  let main_c_7 : IVec S_ 32 := constantI S_ 32 512#32
  let main_v12 : IVec S_ 1 := cmpi .sle main_v8 main_c_7
  (main_v9, main_v10, main_v11, main_v12)
-- ==== Pre_band1.lean ====
abbrev S512x256 : Shape := ⟨2, ![512, 256]⟩
abbrev S1024 : Shape := ⟨1, ![1024]⟩
abbrev S_ : Shape := ⟨0, ![]⟩
abbrev S512 : Shape := ⟨1, ![512]⟩

class Facts : Prop where
  bcast_S_S1024 : S_.BroadcastsInDim S1024 (![] : Fin 0 → Fin S1024.rank)
  slices_S1024_S512_0 : S1024.Slices ![0] S512
  reducesTo_S512_S_d0 : S512.ReducesTo [0] S_
  h_S_ : 0 < S_.numel
  slices_S1024_S512_512 : S1024.Slices ![512] S512

variable [Facts]

def fn_where {F : FTy → Type} [FloatOps F] (arg0 : IVec S1024 1) (arg1 : IVec S_ 32) (arg2 : IVec S_ 32) : IVec S1024 32 :=
  let v0 : IVec S1024 32 := broadcastInDim S1024 ![] bcast_S_S1024 arg1
  let v1 : IVec S1024 32 := broadcastInDim S1024 ![] bcast_S_S1024 arg2
  let v2 : IVec S1024 32 := select arg0 v0 v1
  v2

def fn {F : FTy → Type} [FloatOps F] (main_arg0 : FVec F S512x256 .bf16) (main_arg1 : IVec S1024 32) : IVec S_ 1 × IVec S_ 1 × IVec S_ 1 × IVec S_ 1 :=
  let main_c : IVec S_ 32 := constantI S_ 32 0#32
  let main_v0 : IVec S1024 32 := broadcastInDim S1024 ![] bcast_S_S1024 main_c
  let main_v1 : IVec S1024 1 := cmpi .eq main_arg1 main_v0
  let main_c_0 : IVec S_ 32 := constantI S_ 32 1#32
  let main_c_1 : IVec S_ 32 := constantI S_ 32 0#32
  let main_v2 : IVec S1024 32 := fn_where (F := F) main_v1 main_c_0 main_c_1
  let main_v3 : IVec S512 32 := (extractStridedSlice S512 ![0] · slices_S1024_S512_0) main_v2
  let main_v4 : IVec S512 32 := id main_v3
  let main_c_2 : IVec S_ 32 := constantI S_ 32 0#32
  let main_v5 : IVec S_ 32 := (fun x v => Host.reduce IntOp.addi x v reducesTo_S512_S_d0 h_S_) main_v4 main_c_2
  let main_v6 : IVec S512 32 := (extractStridedSlice S512 ![512] · slices_S1024_S512_512) main_v2
  let main_v7 : IVec S512 32 := id main_v6
  let main_c_3 : IVec S_ 32 := constantI S_ 32 0#32
  let main_v8 : IVec S_ 32 := (fun x v => Host.reduce IntOp.addi x v reducesTo_S512_S_d0 h_S_) main_v7 main_c_3
  let main_c_4 : IVec S_ 32 := constantI S_ 32 128#32
  let main_v9 : IVec S_ 1 := cmpi .sge main_v5 main_c_4
  let main_c_5 : IVec S_ 32 := constantI S_ 32 256#32
  let main_v10 : IVec S_ 1 := cmpi .slt main_v5 main_c_5
  let main_c_6 : IVec S_ 32 := constantI S_ 32 256#32
  let main_v11 : IVec S_ 1 := cmpi .sgt main_v8 main_c_6
  let main_c_7 : IVec S_ 32 := constantI S_ 32 384#32
  let main_v12 : IVec S_ 1 := cmpi .sle main_v8 main_c_7
  (main_v9, main_v10, main_v11, main_v12)
-- ==== Pre_band2.lean ====
abbrev S512x256 : Shape := ⟨2, ![512, 256]⟩
abbrev S1024 : Shape := ⟨1, ![1024]⟩
abbrev S_ : Shape := ⟨0, ![]⟩
abbrev S512 : Shape := ⟨1, ![512]⟩

class Facts : Prop where
  bcast_S_S1024 : S_.BroadcastsInDim S1024 (![] : Fin 0 → Fin S1024.rank)
  slices_S1024_S512_0 : S1024.Slices ![0] S512
  reducesTo_S512_S_d0 : S512.ReducesTo [0] S_
  h_S_ : 0 < S_.numel
  slices_S1024_S512_512 : S1024.Slices ![512] S512

variable [Facts]

def fn_where {F : FTy → Type} [FloatOps F] (arg0 : IVec S1024 1) (arg1 : IVec S_ 32) (arg2 : IVec S_ 32) : IVec S1024 32 :=
  let v0 : IVec S1024 32 := broadcastInDim S1024 ![] bcast_S_S1024 arg1
  let v1 : IVec S1024 32 := broadcastInDim S1024 ![] bcast_S_S1024 arg2
  let v2 : IVec S1024 32 := select arg0 v0 v1
  v2

def fn {F : FTy → Type} [FloatOps F] (main_arg0 : FVec F S512x256 .bf16) (main_arg1 : IVec S1024 32) : IVec S_ 1 × IVec S_ 1 × IVec S_ 1 × IVec S_ 1 :=
  let main_c : IVec S_ 32 := constantI S_ 32 0#32
  let main_v0 : IVec S1024 32 := broadcastInDim S1024 ![] bcast_S_S1024 main_c
  let main_v1 : IVec S1024 1 := cmpi .eq main_arg1 main_v0
  let main_c_0 : IVec S_ 32 := constantI S_ 32 1#32
  let main_c_1 : IVec S_ 32 := constantI S_ 32 0#32
  let main_v2 : IVec S1024 32 := fn_where (F := F) main_v1 main_c_0 main_c_1
  let main_v3 : IVec S512 32 := (extractStridedSlice S512 ![0] · slices_S1024_S512_0) main_v2
  let main_v4 : IVec S512 32 := id main_v3
  let main_c_2 : IVec S_ 32 := constantI S_ 32 0#32
  let main_v5 : IVec S_ 32 := (fun x v => Host.reduce IntOp.addi x v reducesTo_S512_S_d0 h_S_) main_v4 main_c_2
  let main_v6 : IVec S512 32 := (extractStridedSlice S512 ![512] · slices_S1024_S512_512) main_v2
  let main_v7 : IVec S512 32 := id main_v6
  let main_c_3 : IVec S_ 32 := constantI S_ 32 0#32
  let main_v8 : IVec S_ 32 := (fun x v => Host.reduce IntOp.addi x v reducesTo_S512_S_d0 h_S_) main_v7 main_c_3
  let main_c_4 : IVec S_ 32 := constantI S_ 32 256#32
  let main_v9 : IVec S_ 1 := cmpi .sge main_v5 main_c_4
  let main_c_5 : IVec S_ 32 := constantI S_ 32 384#32
  let main_v10 : IVec S_ 1 := cmpi .slt main_v5 main_c_5
  let main_c_6 : IVec S_ 32 := constantI S_ 32 128#32
  let main_v11 : IVec S_ 1 := cmpi .sgt main_v8 main_c_6
  let main_c_7 : IVec S_ 32 := constantI S_ 32 256#32
  let main_v12 : IVec S_ 1 := cmpi .sle main_v8 main_c_7
  (main_v9, main_v10, main_v11, main_v12)
-- ==== Pre_band3.lean ====
abbrev S512x256 : Shape := ⟨2, ![512, 256]⟩
abbrev S1024 : Shape := ⟨1, ![1024]⟩
abbrev S_ : Shape := ⟨0, ![]⟩
abbrev S512 : Shape := ⟨1, ![512]⟩

class Facts : Prop where
  bcast_S_S1024 : S_.BroadcastsInDim S1024 (![] : Fin 0 → Fin S1024.rank)
  slices_S1024_S512_0 : S1024.Slices ![0] S512
  reducesTo_S512_S_d0 : S512.ReducesTo [0] S_
  h_S_ : 0 < S_.numel
  slices_S1024_S512_512 : S1024.Slices ![512] S512

variable [Facts]

def fn_where {F : FTy → Type} [FloatOps F] (arg0 : IVec S1024 1) (arg1 : IVec S_ 32) (arg2 : IVec S_ 32) : IVec S1024 32 :=
  let v0 : IVec S1024 32 := broadcastInDim S1024 ![] bcast_S_S1024 arg1
  let v1 : IVec S1024 32 := broadcastInDim S1024 ![] bcast_S_S1024 arg2
  let v2 : IVec S1024 32 := select arg0 v0 v1
  v2

def fn {F : FTy → Type} [FloatOps F] (main_arg0 : FVec F S512x256 .bf16) (main_arg1 : IVec S1024 32) : IVec S_ 1 × IVec S_ 1 × IVec S_ 1 × IVec S_ 1 :=
  let main_c : IVec S_ 32 := constantI S_ 32 0#32
  let main_v0 : IVec S1024 32 := broadcastInDim S1024 ![] bcast_S_S1024 main_c
  let main_v1 : IVec S1024 1 := cmpi .eq main_arg1 main_v0
  let main_c_0 : IVec S_ 32 := constantI S_ 32 1#32
  let main_c_1 : IVec S_ 32 := constantI S_ 32 0#32
  let main_v2 : IVec S1024 32 := fn_where (F := F) main_v1 main_c_0 main_c_1
  let main_v3 : IVec S512 32 := (extractStridedSlice S512 ![0] · slices_S1024_S512_0) main_v2
  let main_v4 : IVec S512 32 := id main_v3
  let main_c_2 : IVec S_ 32 := constantI S_ 32 0#32
  let main_v5 : IVec S_ 32 := (fun x v => Host.reduce IntOp.addi x v reducesTo_S512_S_d0 h_S_) main_v4 main_c_2
  let main_v6 : IVec S512 32 := (extractStridedSlice S512 ![512] · slices_S1024_S512_512) main_v2
  let main_v7 : IVec S512 32 := id main_v6
  let main_c_3 : IVec S_ 32 := constantI S_ 32 0#32
  let main_v8 : IVec S_ 32 := (fun x v => Host.reduce IntOp.addi x v reducesTo_S512_S_d0 h_S_) main_v7 main_c_3
  let main_c_4 : IVec S_ 32 := constantI S_ 32 384#32
  let main_v9 : IVec S_ 1 := cmpi .sge main_v5 main_c_4
  let main_c_5 : IVec S_ 32 := constantI S_ 32 512#32
  let main_v10 : IVec S_ 1 := cmpi .slt main_v5 main_c_5
  let main_c_6 : IVec S_ 32 := constantI S_ 32 0#32
  let main_v11 : IVec S_ 1 := cmpi .sgt main_v8 main_c_6
  let main_c_7 : IVec S_ 32 := constantI S_ 32 128#32
  let main_v12 : IVec S_ 1 := cmpi .sle main_v8 main_c_7
  (main_v9, main_v10, main_v11, main_v12)
-- ==== Pre_band4.lean ====
abbrev S512x256 : Shape := ⟨2, ![512, 256]⟩
abbrev S1024 : Shape := ⟨1, ![1024]⟩
abbrev S_ : Shape := ⟨0, ![]⟩
abbrev S512 : Shape := ⟨1, ![512]⟩

class Facts : Prop where
  bcast_S_S1024 : S_.BroadcastsInDim S1024 (![] : Fin 0 → Fin S1024.rank)
  slices_S1024_S512_0 : S1024.Slices ![0] S512
  reducesTo_S512_S_d0 : S512.ReducesTo [0] S_
  h_S_ : 0 < S_.numel
  slices_S1024_S512_512 : S1024.Slices ![512] S512

variable [Facts]

def fn_where {F : FTy → Type} [FloatOps F] (arg0 : IVec S1024 1) (arg1 : IVec S_ 32) (arg2 : IVec S_ 32) : IVec S1024 32 :=
  let v0 : IVec S1024 32 := broadcastInDim S1024 ![] bcast_S_S1024 arg1
  let v1 : IVec S1024 32 := broadcastInDim S1024 ![] bcast_S_S1024 arg2
  let v2 : IVec S1024 32 := select arg0 v0 v1
  v2

def fn {F : FTy → Type} [FloatOps F] (main_arg0 : FVec F S512x256 .bf16) (main_arg1 : IVec S1024 32) : IVec S_ 1 × IVec S_ 1 × IVec S_ 1 × IVec S_ 1 :=
  let main_c : IVec S_ 32 := constantI S_ 32 0#32
  let main_v0 : IVec S1024 32 := broadcastInDim S1024 ![] bcast_S_S1024 main_c
  let main_v1 : IVec S1024 1 := cmpi .eq main_arg1 main_v0
  let main_c_0 : IVec S_ 32 := constantI S_ 32 1#32
  let main_c_1 : IVec S_ 32 := constantI S_ 32 0#32
  let main_v2 : IVec S1024 32 := fn_where (F := F) main_v1 main_c_0 main_c_1
  let main_v3 : IVec S512 32 := (extractStridedSlice S512 ![0] · slices_S1024_S512_0) main_v2
  let main_v4 : IVec S512 32 := id main_v3
  let main_c_2 : IVec S_ 32 := constantI S_ 32 0#32
  let main_v5 : IVec S_ 32 := (fun x v => Host.reduce IntOp.addi x v reducesTo_S512_S_d0 h_S_) main_v4 main_c_2
  let main_v6 : IVec S512 32 := (extractStridedSlice S512 ![512] · slices_S1024_S512_512) main_v2
  let main_v7 : IVec S512 32 := id main_v6
  let main_c_3 : IVec S_ 32 := constantI S_ 32 0#32
  let main_v8 : IVec S_ 32 := (fun x v => Host.reduce IntOp.addi x v reducesTo_S512_S_d0 h_S_) main_v7 main_c_3
  let main_c_4 : IVec S_ 32 := constantI S_ 32 512#32
  let main_v9 : IVec S_ 1 := cmpi .sge main_v5 main_c_4
  let main_c_5 : IVec S_ 32 := constantI S_ 32 640#32
  let main_v10 : IVec S_ 1 := cmpi .slt main_v5 main_c_5
  let main_c_6 : IVec S_ 32 := constantI S_ 32 4294967168#32
  let main_v11 : IVec S_ 1 := cmpi .sgt main_v8 main_c_6
  let main_c_7 : IVec S_ 32 := constantI S_ 32 0#32
  let main_v12 : IVec S_ 1 := cmpi .sle main_v8 main_c_7
  (main_v9, main_v10, main_v11, main_v12)
-- ==== Pre_even0_KernelIdeal.lean ====
abbrev S512x256 : Shape := ⟨2, ![512, 256]⟩
abbrev S1024 : Shape := ⟨1, ![1024]⟩
abbrev S_ : Shape := ⟨0, ![]⟩
abbrev S512 : Shape := ⟨1, ![512]⟩

class Facts : Prop where
  bcast_S_S1024 : S_.BroadcastsInDim S1024 (![] : Fin 0 → Fin S1024.rank)
  slices_S1024_S512_0 : S1024.Slices ![0] S512
  reducesTo_S512_S_d0 : S512.ReducesTo [0] S_
  h_S_ : 0 < S_.numel
  slices_S1024_S512_512 : S1024.Slices ![512] S512
  reducesTo_S1024_S_d0 : S1024.ReducesTo [0] S_

variable [Facts]

def fn_where {F : FTy → Type} [FloatOps F] (arg0 : IVec S1024 1) (arg1 : IVec S_ 32) (arg2 : IVec S_ 32) : IVec S1024 32 :=
  let v0 : IVec S1024 32 := broadcastInDim S1024 ![] bcast_S_S1024 arg1
  let v1 : IVec S1024 32 := broadcastInDim S1024 ![] bcast_S_S1024 arg2
  let v2 : IVec S1024 32 := select arg0 v0 v1
  v2

def fn_part1 {F : FTy → Type} [FloatOps F] (main_arg1 : IVec S1024 32) (main_v9 : IVec S_ 1) (main_v10 : IVec S_ 1) (main_v11 : IVec S_ 1) (main_v12 : IVec S_ 1) (main_v13 : IVec S1024 32) : IVec S_ 1 × IVec S_ 1 × IVec S_ 1 × IVec S_ 1 × IVec S1024 1 × IVec S1024 1 × IVec S_ 1 :=
  let main_v14 : IVec S1024 1 := cmpi .sge main_arg1 main_v13
  let main_c_9 : IVec S_ 32 := constantI S_ 32 1#32
  let main_v15 : IVec S1024 32 := broadcastInDim S1024 ![] bcast_S_S1024 main_c_9
  let main_v16 : IVec S1024 1 := cmpi .sle main_arg1 main_v15
  let main_c_10 : IVec S_ 32 := constantI S_ 32 0#32
  let main_v17 : IVec S_ 32 := (fun x v => Host.reduce IntOp.addi x v reducesTo_S1024_S_d0 h_S_) main_arg1 main_c_10
  let main_c_11 : IVec S_ 32 := constantI S_ 32 512#32
  let main_v18 : IVec S_ 1 := cmpi .eq main_v17 main_c_11
  (main_v9, main_v10, main_v11, main_v12, main_v14, main_v16, main_v18)

def fn {F : FTy → Type} [FloatOps F] (main_arg0 : FVec F S512x256 .bf16) (main_arg1 : IVec S1024 32) : IVec S_ 1 × IVec S_ 1 × IVec S_ 1 × IVec S_ 1 × IVec S1024 1 × IVec S1024 1 × IVec S_ 1 :=
  let main_c : IVec S_ 32 := constantI S_ 32 0#32
  let main_v0 : IVec S1024 32 := broadcastInDim S1024 ![] bcast_S_S1024 main_c
  let main_v1 : IVec S1024 1 := cmpi .eq main_arg1 main_v0
  let main_c_0 : IVec S_ 32 := constantI S_ 32 1#32
  let main_c_1 : IVec S_ 32 := constantI S_ 32 0#32
  let main_v2 : IVec S1024 32 := fn_where (F := F) main_v1 main_c_0 main_c_1
  let main_v3 : IVec S512 32 := (extractStridedSlice S512 ![0] · slices_S1024_S512_0) main_v2
  let main_v4 : IVec S512 32 := id main_v3
  let main_c_2 : IVec S_ 32 := constantI S_ 32 0#32
  let main_v5 : IVec S_ 32 := (fun x v => Host.reduce IntOp.addi x v reducesTo_S512_S_d0 h_S_) main_v4 main_c_2
  let main_v6 : IVec S512 32 := (extractStridedSlice S512 ![512] · slices_S1024_S512_512) main_v2
  let main_v7 : IVec S512 32 := id main_v6
  let main_c_3 : IVec S_ 32 := constantI S_ 32 0#32
  let main_v8 : IVec S_ 32 := (fun x v => Host.reduce IntOp.addi x v reducesTo_S512_S_d0 h_S_) main_v7 main_c_3
  let main_c_4 : IVec S_ 32 := constantI S_ 32 0#32
  let main_v9 : IVec S_ 1 := cmpi .sge main_v5 main_c_4
  let main_c_5 : IVec S_ 32 := constantI S_ 32 128#32
  let main_v10 : IVec S_ 1 := cmpi .slt main_v5 main_c_5
  let main_c_6 : IVec S_ 32 := constantI S_ 32 384#32
  let main_v11 : IVec S_ 1 := cmpi .sgt main_v8 main_c_6
  let main_c_7 : IVec S_ 32 := constantI S_ 32 512#32
  let main_v12 : IVec S_ 1 := cmpi .sle main_v8 main_c_7
  let main_c_8 : IVec S_ 32 := constantI S_ 32 0#32
  let main_v13 : IVec S1024 32 := broadcastInDim S1024 ![] bcast_S_S1024 main_c_8
  fn_part1 (F := F) main_arg1 main_v9 main_v10 main_v11 main_v12 main_v13
-- ==== Pre_even0_ReferenceIdeal.lean ====
abbrev S1024x256 : Shape := ⟨2, ![1024, 256]⟩
abbrev S1024 : Shape := ⟨1, ![1024]⟩
abbrev S_ : Shape := ⟨0, ![]⟩
abbrev S512 : Shape := ⟨1, ![512]⟩

class Facts : Prop where
  bcast_S_S1024 : S_.BroadcastsInDim S1024 (![] : Fin 0 → Fin S1024.rank)
  slices_S1024_S512_0 : S1024.Slices ![0] S512
  reducesTo_S512_S_d0 : S512.ReducesTo [0] S_
  h_S_ : 0 < S_.numel
  slices_S1024_S512_512 : S1024.Slices ![512] S512
  reducesTo_S1024_S_d0 : S1024.ReducesTo [0] S_

variable [Facts]

def fn_where {F : FTy → Type} [FloatOps F] (arg0 : IVec S1024 1) (arg1 : IVec S_ 32) (arg2 : IVec S_ 32) : IVec S1024 32 :=
  let v0 : IVec S1024 32 := broadcastInDim S1024 ![] bcast_S_S1024 arg1
  let v1 : IVec S1024 32 := broadcastInDim S1024 ![] bcast_S_S1024 arg2
  let v2 : IVec S1024 32 := select arg0 v0 v1
  v2

def fn_part1 {F : FTy → Type} [FloatOps F] (main_arg1 : IVec S1024 32) (main_v9 : IVec S_ 1) (main_v10 : IVec S_ 1) (main_v11 : IVec S_ 1) (main_v12 : IVec S_ 1) (main_v13 : IVec S1024 32) : IVec S_ 1 × IVec S_ 1 × IVec S_ 1 × IVec S_ 1 × IVec S1024 1 × IVec S1024 1 × IVec S_ 1 :=
  let main_v14 : IVec S1024 1 := cmpi .sge main_arg1 main_v13
  let main_c_9 : IVec S_ 32 := constantI S_ 32 1#32
  let main_v15 : IVec S1024 32 := broadcastInDim S1024 ![] bcast_S_S1024 main_c_9
  let main_v16 : IVec S1024 1 := cmpi .sle main_arg1 main_v15
  let main_c_10 : IVec S_ 32 := constantI S_ 32 0#32
  let main_v17 : IVec S_ 32 := (fun x v => Host.reduce IntOp.addi x v reducesTo_S1024_S_d0 h_S_) main_arg1 main_c_10
  let main_c_11 : IVec S_ 32 := constantI S_ 32 512#32
  let main_v18 : IVec S_ 1 := cmpi .eq main_v17 main_c_11
  (main_v9, main_v10, main_v11, main_v12, main_v14, main_v16, main_v18)

def fn {F : FTy → Type} [FloatOps F] (main_arg0 : FVec F S1024x256 .bf16) (main_arg1 : IVec S1024 32) : IVec S_ 1 × IVec S_ 1 × IVec S_ 1 × IVec S_ 1 × IVec S1024 1 × IVec S1024 1 × IVec S_ 1 :=
  let main_c : IVec S_ 32 := constantI S_ 32 0#32
  let main_v0 : IVec S1024 32 := broadcastInDim S1024 ![] bcast_S_S1024 main_c
  let main_v1 : IVec S1024 1 := cmpi .eq main_arg1 main_v0
  let main_c_0 : IVec S_ 32 := constantI S_ 32 1#32
  let main_c_1 : IVec S_ 32 := constantI S_ 32 0#32
  let main_v2 : IVec S1024 32 := fn_where (F := F) main_v1 main_c_0 main_c_1
  let main_v3 : IVec S512 32 := (extractStridedSlice S512 ![0] · slices_S1024_S512_0) main_v2
  let main_v4 : IVec S512 32 := id main_v3
  let main_c_2 : IVec S_ 32 := constantI S_ 32 0#32
  let main_v5 : IVec S_ 32 := (fun x v => Host.reduce IntOp.addi x v reducesTo_S512_S_d0 h_S_) main_v4 main_c_2
  let main_v6 : IVec S512 32 := (extractStridedSlice S512 ![512] · slices_S1024_S512_512) main_v2
  let main_v7 : IVec S512 32 := id main_v6
  let main_c_3 : IVec S_ 32 := constantI S_ 32 0#32
  let main_v8 : IVec S_ 32 := (fun x v => Host.reduce IntOp.addi x v reducesTo_S512_S_d0 h_S_) main_v7 main_c_3
  let main_c_4 : IVec S_ 32 := constantI S_ 32 0#32
  let main_v9 : IVec S_ 1 := cmpi .sge main_v5 main_c_4
  let main_c_5 : IVec S_ 32 := constantI S_ 32 128#32
  let main_v10 : IVec S_ 1 := cmpi .slt main_v5 main_c_5
  let main_c_6 : IVec S_ 32 := constantI S_ 32 384#32
  let main_v11 : IVec S_ 1 := cmpi .sgt main_v8 main_c_6
  let main_c_7 : IVec S_ 32 := constantI S_ 32 512#32
  let main_v12 : IVec S_ 1 := cmpi .sle main_v8 main_c_7
  let main_c_8 : IVec S_ 32 := constantI S_ 32 0#32
  let main_v13 : IVec S1024 32 := broadcastInDim S1024 ![] bcast_S_S1024 main_c_8
  fn_part1 (F := F) main_arg1 main_v9 main_v10 main_v11 main_v12 main_v13
-- ==== Pre_even1_KernelIdeal.lean ====
abbrev S512x256 : Shape := ⟨2, ![512, 256]⟩
abbrev S1024 : Shape := ⟨1, ![1024]⟩
abbrev S_ : Shape := ⟨0, ![]⟩
abbrev S512 : Shape := ⟨1, ![512]⟩

class Facts : Prop where
  bcast_S_S1024 : S_.BroadcastsInDim S1024 (![] : Fin 0 → Fin S1024.rank)
  slices_S1024_S512_0 : S1024.Slices ![0] S512
  reducesTo_S512_S_d0 : S512.ReducesTo [0] S_
  h_S_ : 0 < S_.numel
  slices_S1024_S512_512 : S1024.Slices ![512] S512
  reducesTo_S1024_S_d0 : S1024.ReducesTo [0] S_

variable [Facts]

def fn_where {F : FTy → Type} [FloatOps F] (arg0 : IVec S1024 1) (arg1 : IVec S_ 32) (arg2 : IVec S_ 32) : IVec S1024 32 :=
  let v0 : IVec S1024 32 := broadcastInDim S1024 ![] bcast_S_S1024 arg1
  let v1 : IVec S1024 32 := broadcastInDim S1024 ![] bcast_S_S1024 arg2
  let v2 : IVec S1024 32 := select arg0 v0 v1
  v2

def fn_part1 {F : FTy → Type} [FloatOps F] (main_arg1 : IVec S1024 32) (main_v9 : IVec S_ 1) (main_v10 : IVec S_ 1) (main_v11 : IVec S_ 1) (main_v12 : IVec S_ 1) (main_v13 : IVec S1024 32) : IVec S_ 1 × IVec S_ 1 × IVec S_ 1 × IVec S_ 1 × IVec S1024 1 × IVec S1024 1 × IVec S_ 1 :=
  let main_v14 : IVec S1024 1 := cmpi .sge main_arg1 main_v13
  let main_c_9 : IVec S_ 32 := constantI S_ 32 1#32
  let main_v15 : IVec S1024 32 := broadcastInDim S1024 ![] bcast_S_S1024 main_c_9
  let main_v16 : IVec S1024 1 := cmpi .sle main_arg1 main_v15
  let main_c_10 : IVec S_ 32 := constantI S_ 32 0#32
  let main_v17 : IVec S_ 32 := (fun x v => Host.reduce IntOp.addi x v reducesTo_S1024_S_d0 h_S_) main_arg1 main_c_10
  let main_c_11 : IVec S_ 32 := constantI S_ 32 512#32
  let main_v18 : IVec S_ 1 := cmpi .eq main_v17 main_c_11
  (main_v9, main_v10, main_v11, main_v12, main_v14, main_v16, main_v18)

def fn {F : FTy → Type} [FloatOps F] (main_arg0 : FVec F S512x256 .bf16) (main_arg1 : IVec S1024 32) : IVec S_ 1 × IVec S_ 1 × IVec S_ 1 × IVec S_ 1 × IVec S1024 1 × IVec S1024 1 × IVec S_ 1 :=
  let main_c : IVec S_ 32 := constantI S_ 32 0#32
  let main_v0 : IVec S1024 32 := broadcastInDim S1024 ![] bcast_S_S1024 main_c
  let main_v1 : IVec S1024 1 := cmpi .eq main_arg1 main_v0
  let main_c_0 : IVec S_ 32 := constantI S_ 32 1#32
  let main_c_1 : IVec S_ 32 := constantI S_ 32 0#32
  let main_v2 : IVec S1024 32 := fn_where (F := F) main_v1 main_c_0 main_c_1
  let main_v3 : IVec S512 32 := (extractStridedSlice S512 ![0] · slices_S1024_S512_0) main_v2
  let main_v4 : IVec S512 32 := id main_v3
  let main_c_2 : IVec S_ 32 := constantI S_ 32 0#32
  let main_v5 : IVec S_ 32 := (fun x v => Host.reduce IntOp.addi x v reducesTo_S512_S_d0 h_S_) main_v4 main_c_2
  let main_v6 : IVec S512 32 := (extractStridedSlice S512 ![512] · slices_S1024_S512_512) main_v2
  let main_v7 : IVec S512 32 := id main_v6
  let main_c_3 : IVec S_ 32 := constantI S_ 32 0#32
  let main_v8 : IVec S_ 32 := (fun x v => Host.reduce IntOp.addi x v reducesTo_S512_S_d0 h_S_) main_v7 main_c_3
  let main_c_4 : IVec S_ 32 := constantI S_ 32 128#32
  let main_v9 : IVec S_ 1 := cmpi .sge main_v5 main_c_4
  let main_c_5 : IVec S_ 32 := constantI S_ 32 256#32
  let main_v10 : IVec S_ 1 := cmpi .slt main_v5 main_c_5
  let main_c_6 : IVec S_ 32 := constantI S_ 32 256#32
  let main_v11 : IVec S_ 1 := cmpi .sgt main_v8 main_c_6
  let main_c_7 : IVec S_ 32 := constantI S_ 32 384#32
  let main_v12 : IVec S_ 1 := cmpi .sle main_v8 main_c_7
  let main_c_8 : IVec S_ 32 := constantI S_ 32 0#32
  let main_v13 : IVec S1024 32 := broadcastInDim S1024 ![] bcast_S_S1024 main_c_8
  fn_part1 (F := F) main_arg1 main_v9 main_v10 main_v11 main_v12 main_v13
-- ==== Pre_even1_ReferenceIdeal.lean ====
abbrev S1024x256 : Shape := ⟨2, ![1024, 256]⟩
abbrev S1024 : Shape := ⟨1, ![1024]⟩
abbrev S_ : Shape := ⟨0, ![]⟩
abbrev S512 : Shape := ⟨1, ![512]⟩

class Facts : Prop where
  bcast_S_S1024 : S_.BroadcastsInDim S1024 (![] : Fin 0 → Fin S1024.rank)
  slices_S1024_S512_0 : S1024.Slices ![0] S512
  reducesTo_S512_S_d0 : S512.ReducesTo [0] S_
  h_S_ : 0 < S_.numel
  slices_S1024_S512_512 : S1024.Slices ![512] S512
  reducesTo_S1024_S_d0 : S1024.ReducesTo [0] S_

variable [Facts]

def fn_where {F : FTy → Type} [FloatOps F] (arg0 : IVec S1024 1) (arg1 : IVec S_ 32) (arg2 : IVec S_ 32) : IVec S1024 32 :=
  let v0 : IVec S1024 32 := broadcastInDim S1024 ![] bcast_S_S1024 arg1
  let v1 : IVec S1024 32 := broadcastInDim S1024 ![] bcast_S_S1024 arg2
  let v2 : IVec S1024 32 := select arg0 v0 v1
  v2

def fn_part1 {F : FTy → Type} [FloatOps F] (main_arg1 : IVec S1024 32) (main_v9 : IVec S_ 1) (main_v10 : IVec S_ 1) (main_v11 : IVec S_ 1) (main_v12 : IVec S_ 1) (main_v13 : IVec S1024 32) : IVec S_ 1 × IVec S_ 1 × IVec S_ 1 × IVec S_ 1 × IVec S1024 1 × IVec S1024 1 × IVec S_ 1 :=
  let main_v14 : IVec S1024 1 := cmpi .sge main_arg1 main_v13
  let main_c_9 : IVec S_ 32 := constantI S_ 32 1#32
  let main_v15 : IVec S1024 32 := broadcastInDim S1024 ![] bcast_S_S1024 main_c_9
  let main_v16 : IVec S1024 1 := cmpi .sle main_arg1 main_v15
  let main_c_10 : IVec S_ 32 := constantI S_ 32 0#32
  let main_v17 : IVec S_ 32 := (fun x v => Host.reduce IntOp.addi x v reducesTo_S1024_S_d0 h_S_) main_arg1 main_c_10
  let main_c_11 : IVec S_ 32 := constantI S_ 32 512#32
  let main_v18 : IVec S_ 1 := cmpi .eq main_v17 main_c_11
  (main_v9, main_v10, main_v11, main_v12, main_v14, main_v16, main_v18)

def fn {F : FTy → Type} [FloatOps F] (main_arg0 : FVec F S1024x256 .bf16) (main_arg1 : IVec S1024 32) : IVec S_ 1 × IVec S_ 1 × IVec S_ 1 × IVec S_ 1 × IVec S1024 1 × IVec S1024 1 × IVec S_ 1 :=
  let main_c : IVec S_ 32 := constantI S_ 32 0#32
  let main_v0 : IVec S1024 32 := broadcastInDim S1024 ![] bcast_S_S1024 main_c
  let main_v1 : IVec S1024 1 := cmpi .eq main_arg1 main_v0
  let main_c_0 : IVec S_ 32 := constantI S_ 32 1#32
  let main_c_1 : IVec S_ 32 := constantI S_ 32 0#32
  let main_v2 : IVec S1024 32 := fn_where (F := F) main_v1 main_c_0 main_c_1
  let main_v3 : IVec S512 32 := (extractStridedSlice S512 ![0] · slices_S1024_S512_0) main_v2
  let main_v4 : IVec S512 32 := id main_v3
  let main_c_2 : IVec S_ 32 := constantI S_ 32 0#32
  let main_v5 : IVec S_ 32 := (fun x v => Host.reduce IntOp.addi x v reducesTo_S512_S_d0 h_S_) main_v4 main_c_2
  let main_v6 : IVec S512 32 := (extractStridedSlice S512 ![512] · slices_S1024_S512_512) main_v2
  let main_v7 : IVec S512 32 := id main_v6
  let main_c_3 : IVec S_ 32 := constantI S_ 32 0#32
  let main_v8 : IVec S_ 32 := (fun x v => Host.reduce IntOp.addi x v reducesTo_S512_S_d0 h_S_) main_v7 main_c_3
  let main_c_4 : IVec S_ 32 := constantI S_ 32 128#32
  let main_v9 : IVec S_ 1 := cmpi .sge main_v5 main_c_4
  let main_c_5 : IVec S_ 32 := constantI S_ 32 256#32
  let main_v10 : IVec S_ 1 := cmpi .slt main_v5 main_c_5
  let main_c_6 : IVec S_ 32 := constantI S_ 32 256#32
  let main_v11 : IVec S_ 1 := cmpi .sgt main_v8 main_c_6
  let main_c_7 : IVec S_ 32 := constantI S_ 32 384#32
  let main_v12 : IVec S_ 1 := cmpi .sle main_v8 main_c_7
  let main_c_8 : IVec S_ 32 := constantI S_ 32 0#32
  let main_v13 : IVec S1024 32 := broadcastInDim S1024 ![] bcast_S_S1024 main_c_8
  fn_part1 (F := F) main_arg1 main_v9 main_v10 main_v11 main_v12 main_v13
-- ==== Pre_even2_KernelIdeal.lean ====
abbrev S512x256 : Shape := ⟨2, ![512, 256]⟩
abbrev S1024 : Shape := ⟨1, ![1024]⟩
abbrev S_ : Shape := ⟨0, ![]⟩
abbrev S512 : Shape := ⟨1, ![512]⟩

class Facts : Prop where
  bcast_S_S1024 : S_.BroadcastsInDim S1024 (![] : Fin 0 → Fin S1024.rank)
  slices_S1024_S512_0 : S1024.Slices ![0] S512
  reducesTo_S512_S_d0 : S512.ReducesTo [0] S_
  h_S_ : 0 < S_.numel
  slices_S1024_S512_512 : S1024.Slices ![512] S512
  reducesTo_S1024_S_d0 : S1024.ReducesTo [0] S_

variable [Facts]

def fn_where {F : FTy → Type} [FloatOps F] (arg0 : IVec S1024 1) (arg1 : IVec S_ 32) (arg2 : IVec S_ 32) : IVec S1024 32 :=
  let v0 : IVec S1024 32 := broadcastInDim S1024 ![] bcast_S_S1024 arg1
  let v1 : IVec S1024 32 := broadcastInDim S1024 ![] bcast_S_S1024 arg2
  let v2 : IVec S1024 32 := select arg0 v0 v1
  v2

def fn_part1 {F : FTy → Type} [FloatOps F] (main_arg1 : IVec S1024 32) (main_v9 : IVec S_ 1) (main_v10 : IVec S_ 1) (main_v11 : IVec S_ 1) (main_v12 : IVec S_ 1) (main_v13 : IVec S1024 32) : IVec S_ 1 × IVec S_ 1 × IVec S_ 1 × IVec S_ 1 × IVec S1024 1 × IVec S1024 1 × IVec S_ 1 :=
  let main_v14 : IVec S1024 1 := cmpi .sge main_arg1 main_v13
  let main_c_9 : IVec S_ 32 := constantI S_ 32 1#32
  let main_v15 : IVec S1024 32 := broadcastInDim S1024 ![] bcast_S_S1024 main_c_9
  let main_v16 : IVec S1024 1 := cmpi .sle main_arg1 main_v15
  let main_c_10 : IVec S_ 32 := constantI S_ 32 0#32
  let main_v17 : IVec S_ 32 := (fun x v => Host.reduce IntOp.addi x v reducesTo_S1024_S_d0 h_S_) main_arg1 main_c_10
  let main_c_11 : IVec S_ 32 := constantI S_ 32 512#32
  let main_v18 : IVec S_ 1 := cmpi .eq main_v17 main_c_11
  (main_v9, main_v10, main_v11, main_v12, main_v14, main_v16, main_v18)

def fn {F : FTy → Type} [FloatOps F] (main_arg0 : FVec F S512x256 .bf16) (main_arg1 : IVec S1024 32) : IVec S_ 1 × IVec S_ 1 × IVec S_ 1 × IVec S_ 1 × IVec S1024 1 × IVec S1024 1 × IVec S_ 1 :=
  let main_c : IVec S_ 32 := constantI S_ 32 0#32
  let main_v0 : IVec S1024 32 := broadcastInDim S1024 ![] bcast_S_S1024 main_c
  let main_v1 : IVec S1024 1 := cmpi .eq main_arg1 main_v0
  let main_c_0 : IVec S_ 32 := constantI S_ 32 1#32
  let main_c_1 : IVec S_ 32 := constantI S_ 32 0#32
  let main_v2 : IVec S1024 32 := fn_where (F := F) main_v1 main_c_0 main_c_1
  let main_v3 : IVec S512 32 := (extractStridedSlice S512 ![0] · slices_S1024_S512_0) main_v2
  let main_v4 : IVec S512 32 := id main_v3
  let main_c_2 : IVec S_ 32 := constantI S_ 32 0#32
  let main_v5 : IVec S_ 32 := (fun x v => Host.reduce IntOp.addi x v reducesTo_S512_S_d0 h_S_) main_v4 main_c_2
  let main_v6 : IVec S512 32 := (extractStridedSlice S512 ![512] · slices_S1024_S512_512) main_v2
  let main_v7 : IVec S512 32 := id main_v6
  let main_c_3 : IVec S_ 32 := constantI S_ 32 0#32
  let main_v8 : IVec S_ 32 := (fun x v => Host.reduce IntOp.addi x v reducesTo_S512_S_d0 h_S_) main_v7 main_c_3
  let main_c_4 : IVec S_ 32 := constantI S_ 32 256#32
  let main_v9 : IVec S_ 1 := cmpi .sge main_v5 main_c_4
  let main_c_5 : IVec S_ 32 := constantI S_ 32 384#32
  let main_v10 : IVec S_ 1 := cmpi .slt main_v5 main_c_5
  let main_c_6 : IVec S_ 32 := constantI S_ 32 128#32
  let main_v11 : IVec S_ 1 := cmpi .sgt main_v8 main_c_6
  let main_c_7 : IVec S_ 32 := constantI S_ 32 256#32
  let main_v12 : IVec S_ 1 := cmpi .sle main_v8 main_c_7
  let main_c_8 : IVec S_ 32 := constantI S_ 32 0#32
  let main_v13 : IVec S1024 32 := broadcastInDim S1024 ![] bcast_S_S1024 main_c_8
  fn_part1 (F := F) main_arg1 main_v9 main_v10 main_v11 main_v12 main_v13
-- ==== Pre_even2_ReferenceIdeal.lean ====
abbrev S1024x256 : Shape := ⟨2, ![1024, 256]⟩
abbrev S1024 : Shape := ⟨1, ![1024]⟩
abbrev S_ : Shape := ⟨0, ![]⟩
abbrev S512 : Shape := ⟨1, ![512]⟩

class Facts : Prop where
  bcast_S_S1024 : S_.BroadcastsInDim S1024 (![] : Fin 0 → Fin S1024.rank)
  slices_S1024_S512_0 : S1024.Slices ![0] S512
  reducesTo_S512_S_d0 : S512.ReducesTo [0] S_
  h_S_ : 0 < S_.numel
  slices_S1024_S512_512 : S1024.Slices ![512] S512
  reducesTo_S1024_S_d0 : S1024.ReducesTo [0] S_

variable [Facts]

def fn_where {F : FTy → Type} [FloatOps F] (arg0 : IVec S1024 1) (arg1 : IVec S_ 32) (arg2 : IVec S_ 32) : IVec S1024 32 :=
  let v0 : IVec S1024 32 := broadcastInDim S1024 ![] bcast_S_S1024 arg1
  let v1 : IVec S1024 32 := broadcastInDim S1024 ![] bcast_S_S1024 arg2
  let v2 : IVec S1024 32 := select arg0 v0 v1
  v2

def fn_part1 {F : FTy → Type} [FloatOps F] (main_arg1 : IVec S1024 32) (main_v9 : IVec S_ 1) (main_v10 : IVec S_ 1) (main_v11 : IVec S_ 1) (main_v12 : IVec S_ 1) (main_v13 : IVec S1024 32) : IVec S_ 1 × IVec S_ 1 × IVec S_ 1 × IVec S_ 1 × IVec S1024 1 × IVec S1024 1 × IVec S_ 1 :=
  let main_v14 : IVec S1024 1 := cmpi .sge main_arg1 main_v13
  let main_c_9 : IVec S_ 32 := constantI S_ 32 1#32
  let main_v15 : IVec S1024 32 := broadcastInDim S1024 ![] bcast_S_S1024 main_c_9
  let main_v16 : IVec S1024 1 := cmpi .sle main_arg1 main_v15
  let main_c_10 : IVec S_ 32 := constantI S_ 32 0#32
  let main_v17 : IVec S_ 32 := (fun x v => Host.reduce IntOp.addi x v reducesTo_S1024_S_d0 h_S_) main_arg1 main_c_10
  let main_c_11 : IVec S_ 32 := constantI S_ 32 512#32
  let main_v18 : IVec S_ 1 := cmpi .eq main_v17 main_c_11
  (main_v9, main_v10, main_v11, main_v12, main_v14, main_v16, main_v18)

def fn {F : FTy → Type} [FloatOps F] (main_arg0 : FVec F S1024x256 .bf16) (main_arg1 : IVec S1024 32) : IVec S_ 1 × IVec S_ 1 × IVec S_ 1 × IVec S_ 1 × IVec S1024 1 × IVec S1024 1 × IVec S_ 1 :=
  let main_c : IVec S_ 32 := constantI S_ 32 0#32
  let main_v0 : IVec S1024 32 := broadcastInDim S1024 ![] bcast_S_S1024 main_c
  let main_v1 : IVec S1024 1 := cmpi .eq main_arg1 main_v0
  let main_c_0 : IVec S_ 32 := constantI S_ 32 1#32
  let main_c_1 : IVec S_ 32 := constantI S_ 32 0#32
  let main_v2 : IVec S1024 32 := fn_where (F := F) main_v1 main_c_0 main_c_1
  let main_v3 : IVec S512 32 := (extractStridedSlice S512 ![0] · slices_S1024_S512_0) main_v2
  let main_v4 : IVec S512 32 := id main_v3
  let main_c_2 : IVec S_ 32 := constantI S_ 32 0#32
  let main_v5 : IVec S_ 32 := (fun x v => Host.reduce IntOp.addi x v reducesTo_S512_S_d0 h_S_) main_v4 main_c_2
  let main_v6 : IVec S512 32 := (extractStridedSlice S512 ![512] · slices_S1024_S512_512) main_v2
  let main_v7 : IVec S512 32 := id main_v6
  let main_c_3 : IVec S_ 32 := constantI S_ 32 0#32
  let main_v8 : IVec S_ 32 := (fun x v => Host.reduce IntOp.addi x v reducesTo_S512_S_d0 h_S_) main_v7 main_c_3
  let main_c_4 : IVec S_ 32 := constantI S_ 32 256#32
  let main_v9 : IVec S_ 1 := cmpi .sge main_v5 main_c_4
  let main_c_5 : IVec S_ 32 := constantI S_ 32 384#32
  let main_v10 : IVec S_ 1 := cmpi .slt main_v5 main_c_5
  let main_c_6 : IVec S_ 32 := constantI S_ 32 128#32
  let main_v11 : IVec S_ 1 := cmpi .sgt main_v8 main_c_6
  let main_c_7 : IVec S_ 32 := constantI S_ 32 256#32
  let main_v12 : IVec S_ 1 := cmpi .sle main_v8 main_c_7
  let main_c_8 : IVec S_ 32 := constantI S_ 32 0#32
  let main_v13 : IVec S1024 32 := broadcastInDim S1024 ![] bcast_S_S1024 main_c_8
  fn_part1 (F := F) main_arg1 main_v9 main_v10 main_v11 main_v12 main_v13
-- ==== Pre_even3_KernelIdeal.lean ====
abbrev S512x256 : Shape := ⟨2, ![512, 256]⟩
abbrev S1024 : Shape := ⟨1, ![1024]⟩
abbrev S_ : Shape := ⟨0, ![]⟩
abbrev S512 : Shape := ⟨1, ![512]⟩

class Facts : Prop where
  bcast_S_S1024 : S_.BroadcastsInDim S1024 (![] : Fin 0 → Fin S1024.rank)
  slices_S1024_S512_0 : S1024.Slices ![0] S512
  reducesTo_S512_S_d0 : S512.ReducesTo [0] S_
  h_S_ : 0 < S_.numel
  slices_S1024_S512_512 : S1024.Slices ![512] S512
  reducesTo_S1024_S_d0 : S1024.ReducesTo [0] S_

variable [Facts]

def fn_where {F : FTy → Type} [FloatOps F] (arg0 : IVec S1024 1) (arg1 : IVec S_ 32) (arg2 : IVec S_ 32) : IVec S1024 32 :=
  let v0 : IVec S1024 32 := broadcastInDim S1024 ![] bcast_S_S1024 arg1
  let v1 : IVec S1024 32 := broadcastInDim S1024 ![] bcast_S_S1024 arg2
  let v2 : IVec S1024 32 := select arg0 v0 v1
  v2

def fn_part1 {F : FTy → Type} [FloatOps F] (main_arg1 : IVec S1024 32) (main_v9 : IVec S_ 1) (main_v10 : IVec S_ 1) (main_v11 : IVec S_ 1) (main_v12 : IVec S_ 1) (main_v13 : IVec S1024 32) : IVec S_ 1 × IVec S_ 1 × IVec S_ 1 × IVec S_ 1 × IVec S1024 1 × IVec S1024 1 × IVec S_ 1 :=
  let main_v14 : IVec S1024 1 := cmpi .sge main_arg1 main_v13
  let main_c_9 : IVec S_ 32 := constantI S_ 32 1#32
  let main_v15 : IVec S1024 32 := broadcastInDim S1024 ![] bcast_S_S1024 main_c_9
  let main_v16 : IVec S1024 1 := cmpi .sle main_arg1 main_v15
  let main_c_10 : IVec S_ 32 := constantI S_ 32 0#32
  let main_v17 : IVec S_ 32 := (fun x v => Host.reduce IntOp.addi x v reducesTo_S1024_S_d0 h_S_) main_arg1 main_c_10
  let main_c_11 : IVec S_ 32 := constantI S_ 32 512#32
  let main_v18 : IVec S_ 1 := cmpi .eq main_v17 main_c_11
  (main_v9, main_v10, main_v11, main_v12, main_v14, main_v16, main_v18)

def fn {F : FTy → Type} [FloatOps F] (main_arg0 : FVec F S512x256 .bf16) (main_arg1 : IVec S1024 32) : IVec S_ 1 × IVec S_ 1 × IVec S_ 1 × IVec S_ 1 × IVec S1024 1 × IVec S1024 1 × IVec S_ 1 :=
  let main_c : IVec S_ 32 := constantI S_ 32 0#32
  let main_v0 : IVec S1024 32 := broadcastInDim S1024 ![] bcast_S_S1024 main_c
  let main_v1 : IVec S1024 1 := cmpi .eq main_arg1 main_v0
  let main_c_0 : IVec S_ 32 := constantI S_ 32 1#32
  let main_c_1 : IVec S_ 32 := constantI S_ 32 0#32
  let main_v2 : IVec S1024 32 := fn_where (F := F) main_v1 main_c_0 main_c_1
  let main_v3 : IVec S512 32 := (extractStridedSlice S512 ![0] · slices_S1024_S512_0) main_v2
  let main_v4 : IVec S512 32 := id main_v3
  let main_c_2 : IVec S_ 32 := constantI S_ 32 0#32
  let main_v5 : IVec S_ 32 := (fun x v => Host.reduce IntOp.addi x v reducesTo_S512_S_d0 h_S_) main_v4 main_c_2
  let main_v6 : IVec S512 32 := (extractStridedSlice S512 ![512] · slices_S1024_S512_512) main_v2
  let main_v7 : IVec S512 32 := id main_v6
  let main_c_3 : IVec S_ 32 := constantI S_ 32 0#32
  let main_v8 : IVec S_ 32 := (fun x v => Host.reduce IntOp.addi x v reducesTo_S512_S_d0 h_S_) main_v7 main_c_3
  let main_c_4 : IVec S_ 32 := constantI S_ 32 384#32
  let main_v9 : IVec S_ 1 := cmpi .sge main_v5 main_c_4
  let main_c_5 : IVec S_ 32 := constantI S_ 32 512#32
  let main_v10 : IVec S_ 1 := cmpi .slt main_v5 main_c_5
  let main_c_6 : IVec S_ 32 := constantI S_ 32 0#32
  let main_v11 : IVec S_ 1 := cmpi .sgt main_v8 main_c_6
  let main_c_7 : IVec S_ 32 := constantI S_ 32 128#32
  let main_v12 : IVec S_ 1 := cmpi .sle main_v8 main_c_7
  let main_c_8 : IVec S_ 32 := constantI S_ 32 0#32
  let main_v13 : IVec S1024 32 := broadcastInDim S1024 ![] bcast_S_S1024 main_c_8
  fn_part1 (F := F) main_arg1 main_v9 main_v10 main_v11 main_v12 main_v13
-- ==== Pre_even3_ReferenceIdeal.lean ====
abbrev S1024x256 : Shape := ⟨2, ![1024, 256]⟩
abbrev S1024 : Shape := ⟨1, ![1024]⟩
abbrev S_ : Shape := ⟨0, ![]⟩
abbrev S512 : Shape := ⟨1, ![512]⟩

class Facts : Prop where
  bcast_S_S1024 : S_.BroadcastsInDim S1024 (![] : Fin 0 → Fin S1024.rank)
  slices_S1024_S512_0 : S1024.Slices ![0] S512
  reducesTo_S512_S_d0 : S512.ReducesTo [0] S_
  h_S_ : 0 < S_.numel
  slices_S1024_S512_512 : S1024.Slices ![512] S512
  reducesTo_S1024_S_d0 : S1024.ReducesTo [0] S_

variable [Facts]

def fn_where {F : FTy → Type} [FloatOps F] (arg0 : IVec S1024 1) (arg1 : IVec S_ 32) (arg2 : IVec S_ 32) : IVec S1024 32 :=
  let v0 : IVec S1024 32 := broadcastInDim S1024 ![] bcast_S_S1024 arg1
  let v1 : IVec S1024 32 := broadcastInDim S1024 ![] bcast_S_S1024 arg2
  let v2 : IVec S1024 32 := select arg0 v0 v1
  v2

def fn_part1 {F : FTy → Type} [FloatOps F] (main_arg1 : IVec S1024 32) (main_v9 : IVec S_ 1) (main_v10 : IVec S_ 1) (main_v11 : IVec S_ 1) (main_v12 : IVec S_ 1) (main_v13 : IVec S1024 32) : IVec S_ 1 × IVec S_ 1 × IVec S_ 1 × IVec S_ 1 × IVec S1024 1 × IVec S1024 1 × IVec S_ 1 :=
  let main_v14 : IVec S1024 1 := cmpi .sge main_arg1 main_v13
  let main_c_9 : IVec S_ 32 := constantI S_ 32 1#32
  let main_v15 : IVec S1024 32 := broadcastInDim S1024 ![] bcast_S_S1024 main_c_9
  let main_v16 : IVec S1024 1 := cmpi .sle main_arg1 main_v15
  let main_c_10 : IVec S_ 32 := constantI S_ 32 0#32
  let main_v17 : IVec S_ 32 := (fun x v => Host.reduce IntOp.addi x v reducesTo_S1024_S_d0 h_S_) main_arg1 main_c_10
  let main_c_11 : IVec S_ 32 := constantI S_ 32 512#32
  let main_v18 : IVec S_ 1 := cmpi .eq main_v17 main_c_11
  (main_v9, main_v10, main_v11, main_v12, main_v14, main_v16, main_v18)

def fn {F : FTy → Type} [FloatOps F] (main_arg0 : FVec F S1024x256 .bf16) (main_arg1 : IVec S1024 32) : IVec S_ 1 × IVec S_ 1 × IVec S_ 1 × IVec S_ 1 × IVec S1024 1 × IVec S1024 1 × IVec S_ 1 :=
  let main_c : IVec S_ 32 := constantI S_ 32 0#32
  let main_v0 : IVec S1024 32 := broadcastInDim S1024 ![] bcast_S_S1024 main_c
  let main_v1 : IVec S1024 1 := cmpi .eq main_arg1 main_v0
  let main_c_0 : IVec S_ 32 := constantI S_ 32 1#32
  let main_c_1 : IVec S_ 32 := constantI S_ 32 0#32
  let main_v2 : IVec S1024 32 := fn_where (F := F) main_v1 main_c_0 main_c_1
  let main_v3 : IVec S512 32 := (extractStridedSlice S512 ![0] · slices_S1024_S512_0) main_v2
  let main_v4 : IVec S512 32 := id main_v3
  let main_c_2 : IVec S_ 32 := constantI S_ 32 0#32
  let main_v5 : IVec S_ 32 := (fun x v => Host.reduce IntOp.addi x v reducesTo_S512_S_d0 h_S_) main_v4 main_c_2
  let main_v6 : IVec S512 32 := (extractStridedSlice S512 ![512] · slices_S1024_S512_512) main_v2
  let main_v7 : IVec S512 32 := id main_v6
  let main_c_3 : IVec S_ 32 := constantI S_ 32 0#32
  let main_v8 : IVec S_ 32 := (fun x v => Host.reduce IntOp.addi x v reducesTo_S512_S_d0 h_S_) main_v7 main_c_3
  let main_c_4 : IVec S_ 32 := constantI S_ 32 384#32
  let main_v9 : IVec S_ 1 := cmpi .sge main_v5 main_c_4
  let main_c_5 : IVec S_ 32 := constantI S_ 32 512#32
  let main_v10 : IVec S_ 1 := cmpi .slt main_v5 main_c_5
  let main_c_6 : IVec S_ 32 := constantI S_ 32 0#32
  let main_v11 : IVec S_ 1 := cmpi .sgt main_v8 main_c_6
  let main_c_7 : IVec S_ 32 := constantI S_ 32 128#32
  let main_v12 : IVec S_ 1 := cmpi .sle main_v8 main_c_7
  let main_c_8 : IVec S_ 32 := constantI S_ 32 0#32
  let main_v13 : IVec S1024 32 := broadcastInDim S1024 ![] bcast_S_S1024 main_c_8
  fn_part1 (F := F) main_arg1 main_v9 main_v10 main_v11 main_v12 main_v13
-- ==== Pre_even4_KernelIdeal.lean ====
abbrev S512x256 : Shape := ⟨2, ![512, 256]⟩
abbrev S1024 : Shape := ⟨1, ![1024]⟩
abbrev S_ : Shape := ⟨0, ![]⟩
abbrev S512 : Shape := ⟨1, ![512]⟩

class Facts : Prop where
  bcast_S_S1024 : S_.BroadcastsInDim S1024 (![] : Fin 0 → Fin S1024.rank)
  slices_S1024_S512_0 : S1024.Slices ![0] S512
  reducesTo_S512_S_d0 : S512.ReducesTo [0] S_
  h_S_ : 0 < S_.numel
  slices_S1024_S512_512 : S1024.Slices ![512] S512
  reducesTo_S1024_S_d0 : S1024.ReducesTo [0] S_

variable [Facts]

def fn_where {F : FTy → Type} [FloatOps F] (arg0 : IVec S1024 1) (arg1 : IVec S_ 32) (arg2 : IVec S_ 32) : IVec S1024 32 :=
  let v0 : IVec S1024 32 := broadcastInDim S1024 ![] bcast_S_S1024 arg1
  let v1 : IVec S1024 32 := broadcastInDim S1024 ![] bcast_S_S1024 arg2
  let v2 : IVec S1024 32 := select arg0 v0 v1
  v2

def fn_part1 {F : FTy → Type} [FloatOps F] (main_arg1 : IVec S1024 32) (main_v9 : IVec S_ 1) (main_v10 : IVec S_ 1) (main_v11 : IVec S_ 1) (main_v12 : IVec S_ 1) (main_v13 : IVec S1024 32) : IVec S_ 1 × IVec S_ 1 × IVec S_ 1 × IVec S_ 1 × IVec S1024 1 × IVec S1024 1 × IVec S_ 1 :=
  let main_v14 : IVec S1024 1 := cmpi .sge main_arg1 main_v13
  let main_c_9 : IVec S_ 32 := constantI S_ 32 1#32
  let main_v15 : IVec S1024 32 := broadcastInDim S1024 ![] bcast_S_S1024 main_c_9
  let main_v16 : IVec S1024 1 := cmpi .sle main_arg1 main_v15
  let main_c_10 : IVec S_ 32 := constantI S_ 32 0#32
  let main_v17 : IVec S_ 32 := (fun x v => Host.reduce IntOp.addi x v reducesTo_S1024_S_d0 h_S_) main_arg1 main_c_10
  let main_c_11 : IVec S_ 32 := constantI S_ 32 512#32
  let main_v18 : IVec S_ 1 := cmpi .eq main_v17 main_c_11
  (main_v9, main_v10, main_v11, main_v12, main_v14, main_v16, main_v18)

def fn {F : FTy → Type} [FloatOps F] (main_arg0 : FVec F S512x256 .bf16) (main_arg1 : IVec S1024 32) : IVec S_ 1 × IVec S_ 1 × IVec S_ 1 × IVec S_ 1 × IVec S1024 1 × IVec S1024 1 × IVec S_ 1 :=
  let main_c : IVec S_ 32 := constantI S_ 32 0#32
  let main_v0 : IVec S1024 32 := broadcastInDim S1024 ![] bcast_S_S1024 main_c
  let main_v1 : IVec S1024 1 := cmpi .eq main_arg1 main_v0
  let main_c_0 : IVec S_ 32 := constantI S_ 32 1#32
  let main_c_1 : IVec S_ 32 := constantI S_ 32 0#32
  let main_v2 : IVec S1024 32 := fn_where (F := F) main_v1 main_c_0 main_c_1
  let main_v3 : IVec S512 32 := (extractStridedSlice S512 ![0] · slices_S1024_S512_0) main_v2
  let main_v4 : IVec S512 32 := id main_v3
  let main_c_2 : IVec S_ 32 := constantI S_ 32 0#32
  let main_v5 : IVec S_ 32 := (fun x v => Host.reduce IntOp.addi x v reducesTo_S512_S_d0 h_S_) main_v4 main_c_2
  let main_v6 : IVec S512 32 := (extractStridedSlice S512 ![512] · slices_S1024_S512_512) main_v2
  let main_v7 : IVec S512 32 := id main_v6
  let main_c_3 : IVec S_ 32 := constantI S_ 32 0#32
  let main_v8 : IVec S_ 32 := (fun x v => Host.reduce IntOp.addi x v reducesTo_S512_S_d0 h_S_) main_v7 main_c_3
  let main_c_4 : IVec S_ 32 := constantI S_ 32 512#32
  let main_v9 : IVec S_ 1 := cmpi .sge main_v5 main_c_4
  let main_c_5 : IVec S_ 32 := constantI S_ 32 640#32
  let main_v10 : IVec S_ 1 := cmpi .slt main_v5 main_c_5
  let main_c_6 : IVec S_ 32 := constantI S_ 32 4294967168#32
  let main_v11 : IVec S_ 1 := cmpi .sgt main_v8 main_c_6
  let main_c_7 : IVec S_ 32 := constantI S_ 32 0#32
  let main_v12 : IVec S_ 1 := cmpi .sle main_v8 main_c_7
  let main_c_8 : IVec S_ 32 := constantI S_ 32 0#32
  let main_v13 : IVec S1024 32 := broadcastInDim S1024 ![] bcast_S_S1024 main_c_8
  fn_part1 (F := F) main_arg1 main_v9 main_v10 main_v11 main_v12 main_v13
-- ==== Pre_even4_ReferenceIdeal.lean ====
abbrev S1024x256 : Shape := ⟨2, ![1024, 256]⟩
abbrev S1024 : Shape := ⟨1, ![1024]⟩
abbrev S_ : Shape := ⟨0, ![]⟩
abbrev S512 : Shape := ⟨1, ![512]⟩

class Facts : Prop where
  bcast_S_S1024 : S_.BroadcastsInDim S1024 (![] : Fin 0 → Fin S1024.rank)
  slices_S1024_S512_0 : S1024.Slices ![0] S512
  reducesTo_S512_S_d0 : S512.ReducesTo [0] S_
  h_S_ : 0 < S_.numel
  slices_S1024_S512_512 : S1024.Slices ![512] S512
  reducesTo_S1024_S_d0 : S1024.ReducesTo [0] S_

variable [Facts]

def fn_where {F : FTy → Type} [FloatOps F] (arg0 : IVec S1024 1) (arg1 : IVec S_ 32) (arg2 : IVec S_ 32) : IVec S1024 32 :=
  let v0 : IVec S1024 32 := broadcastInDim S1024 ![] bcast_S_S1024 arg1
  let v1 : IVec S1024 32 := broadcastInDim S1024 ![] bcast_S_S1024 arg2
  let v2 : IVec S1024 32 := select arg0 v0 v1
  v2

def fn_part1 {F : FTy → Type} [FloatOps F] (main_arg1 : IVec S1024 32) (main_v9 : IVec S_ 1) (main_v10 : IVec S_ 1) (main_v11 : IVec S_ 1) (main_v12 : IVec S_ 1) (main_v13 : IVec S1024 32) : IVec S_ 1 × IVec S_ 1 × IVec S_ 1 × IVec S_ 1 × IVec S1024 1 × IVec S1024 1 × IVec S_ 1 :=
  let main_v14 : IVec S1024 1 := cmpi .sge main_arg1 main_v13
  let main_c_9 : IVec S_ 32 := constantI S_ 32 1#32
  let main_v15 : IVec S1024 32 := broadcastInDim S1024 ![] bcast_S_S1024 main_c_9
  let main_v16 : IVec S1024 1 := cmpi .sle main_arg1 main_v15
  let main_c_10 : IVec S_ 32 := constantI S_ 32 0#32
  let main_v17 : IVec S_ 32 := (fun x v => Host.reduce IntOp.addi x v reducesTo_S1024_S_d0 h_S_) main_arg1 main_c_10
  let main_c_11 : IVec S_ 32 := constantI S_ 32 512#32
  let main_v18 : IVec S_ 1 := cmpi .eq main_v17 main_c_11
  (main_v9, main_v10, main_v11, main_v12, main_v14, main_v16, main_v18)

def fn {F : FTy → Type} [FloatOps F] (main_arg0 : FVec F S1024x256 .bf16) (main_arg1 : IVec S1024 32) : IVec S_ 1 × IVec S_ 1 × IVec S_ 1 × IVec S_ 1 × IVec S1024 1 × IVec S1024 1 × IVec S_ 1 :=
  let main_c : IVec S_ 32 := constantI S_ 32 0#32
  let main_v0 : IVec S1024 32 := broadcastInDim S1024 ![] bcast_S_S1024 main_c
  let main_v1 : IVec S1024 1 := cmpi .eq main_arg1 main_v0
  let main_c_0 : IVec S_ 32 := constantI S_ 32 1#32
  let main_c_1 : IVec S_ 32 := constantI S_ 32 0#32
  let main_v2 : IVec S1024 32 := fn_where (F := F) main_v1 main_c_0 main_c_1
  let main_v3 : IVec S512 32 := (extractStridedSlice S512 ![0] · slices_S1024_S512_0) main_v2
  let main_v4 : IVec S512 32 := id main_v3
  let main_c_2 : IVec S_ 32 := constantI S_ 32 0#32
  let main_v5 : IVec S_ 32 := (fun x v => Host.reduce IntOp.addi x v reducesTo_S512_S_d0 h_S_) main_v4 main_c_2
  let main_v6 : IVec S512 32 := (extractStridedSlice S512 ![512] · slices_S1024_S512_512) main_v2
  let main_v7 : IVec S512 32 := id main_v6
  let main_c_3 : IVec S_ 32 := constantI S_ 32 0#32
  let main_v8 : IVec S_ 32 := (fun x v => Host.reduce IntOp.addi x v reducesTo_S512_S_d0 h_S_) main_v7 main_c_3
  let main_c_4 : IVec S_ 32 := constantI S_ 32 512#32
  let main_v9 : IVec S_ 1 := cmpi .sge main_v5 main_c_4
  let main_c_5 : IVec S_ 32 := constantI S_ 32 640#32
  let main_v10 : IVec S_ 1 := cmpi .slt main_v5 main_c_5
  let main_c_6 : IVec S_ 32 := constantI S_ 32 4294967168#32
  let main_v11 : IVec S_ 1 := cmpi .sgt main_v8 main_c_6
  let main_c_7 : IVec S_ 32 := constantI S_ 32 0#32
  let main_v12 : IVec S_ 1 := cmpi .sle main_v8 main_c_7
  let main_c_8 : IVec S_ 32 := constantI S_ 32 0#32
  let main_v13 : IVec S1024 32 := broadcastInDim S1024 ![] bcast_S_S1024 main_c_8
  fn_part1 (F := F) main_arg1 main_v9 main_v10 main_v11 main_v12 main_v13
-- ==== Kernel.lean ====
abbrev S512x256 : Shape := ⟨2, ![512, 256]⟩
abbrev S1024 : Shape := ⟨1, ![1024]⟩
abbrev S_ : Shape := ⟨0, ![]⟩
abbrev S512 : Shape := ⟨1, ![512]⟩
abbrev S1x512 : Shape := ⟨2, ![1, 512]⟩
abbrev S4 : Shape := ⟨1, ![4]⟩
abbrev S512x512 : Shape := ⟨2, ![512, 512]⟩
abbrev S1x1x512 : Shape := ⟨3, ![1, 1, 512]⟩
abbrev S1 : Shape := ⟨1, ![1]⟩
abbrev S1x1x1 : Shape := ⟨3, ![1, 1, 1]⟩
abbrev S512x1 : Shape := ⟨2, ![512, 1]⟩
abbrev S128x256 : Shape := ⟨2, ![128, 256]⟩

abbrev nBuf : Space → Nat
  | .hbm => 18
  | .vmem => 5
  | .smem => 0
  | _ => 0

abbrev bufTy : (tb : Table) → Fin (tcTables nBuf tb) → BufTy
  | .hbm, ⟨0, _⟩ => ⟨S512x256, .bf16⟩
  | .hbm, ⟨1, _⟩ => ⟨S1024, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S512, .i32⟩
  | .hbm, ⟨16, _⟩ => ⟨S1x512, .i32⟩
  | .hbm, ⟨17, _⟩ => ⟨S512x256, .bf16⟩
  | .local _ .vmem, ⟨0, _⟩ => ⟨S512x256, .bf16⟩
  | .local _ .vmem, ⟨1, _⟩ => ⟨S1x512, .i32⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_v5 : Ref sig .tc := ⟨.hbm, 9, rfl⟩
abbrev main_c_2 : Ref sig .tc := ⟨.hbm, 10, rfl⟩
abbrev main_v6 : Ref sig .tc := ⟨.hbm, 11, rfl⟩
abbrev main_c_3 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_5 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4 : BitVec 32 := 8#32
  let v12 : BitVec 32 := Scalar.muli v2 c8_i32_4
  let v13 : BitVec 32 := Scalar.addi c0_i32_5 v12
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_6 : BitVec 32 := 4#32
  let v14 : BitVec 32 := Scalar.muli v9 c4_i32_6
  let v15 : BitVec 32 := Scalar.addi v13 v14
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v16 : BitVec 32 := Scalar.muli v8 c1_i32_7
  let v17 : BitVec 32 := Scalar.addi v15 v16
  v17.toNat
def k0_dev2 (d0 : Dev nD) : Nat :=
  let c0_i32_81 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_80 : BitVec 32 := 8#32
  let v135 : BitVec 32 := Scalar.muli v2 c8_i32_80
  let v136 : BitVec 32 := Scalar.addi c0_i32_81 v135
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_82 : BitVec 32 := 4#32
  let v137 : BitVec 32 := Scalar.muli v9 c4_i32_82
  let v138 : BitVec 32 := Scalar.addi v136 v137
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_83 : BitVec 32 := 1#32
  let v139 : BitVec 32 := Scalar.muli v8 c1_i32_83
  let v140 : BitVec 32 := Scalar.addi v138 v139
  v140.toNat
def k0_dev3 (d0 : Dev nD) : Nat :=
  let c0_i32_81 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_80 : BitVec 32 := 8#32
  let v135 : BitVec 32 := Scalar.muli v2 c8_i32_80
  let v136 : BitVec 32 := Scalar.addi c0_i32_81 v135
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_82 : BitVec 32 := 4#32
  let v137 : BitVec 32 := Scalar.muli v9 c4_i32_82
  let v138 : BitVec 32 := Scalar.addi v136 v137
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_83 : BitVec 32 := 1#32
  let v139 : BitVec 32 := Scalar.muli v8 c1_i32_83
  let v140 : BitVec 32 := Scalar.addi v138 v139
  v140.toNat
def k0_dev4 (d0 : Dev nD) : Nat :=
  let c0_i32_81 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_80 : BitVec 32 := 8#32
  let v135 : BitVec 32 := Scalar.muli v2 c8_i32_80
  let v136 : BitVec 32 := Scalar.addi c0_i32_81 v135
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_82 : BitVec 32 := 4#32
  let v137 : BitVec 32 := Scalar.muli v9 c4_i32_82
  let v138 : BitVec 32 := Scalar.addi v136 v137
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_83 : BitVec 32 := 1#32
  let v139 : BitVec 32 := Scalar.muli v8 c1_i32_83
  let v140 : BitVec 32 := Scalar.addi v138 v139
  v140.toNat
def k0_dev5 (d0 : Dev nD) : Nat :=
  let c0_i32_81 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_80 : BitVec 32 := 8#32
  let v135 : BitVec 32 := Scalar.muli v2 c8_i32_80
  let v136 : BitVec 32 := Scalar.addi c0_i32_81 v135
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_82 : BitVec 32 := 4#32
  let v137 : BitVec 32 := Scalar.muli v9 c4_i32_82
  let v138 : BitVec 32 := Scalar.addi v136 v137
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_83 : BitVec 32 := 1#32
  let v139 : BitVec 32 := Scalar.muli v8 c1_i32_83
  let v140 : BitVec 32 := Scalar.addi v138 v139
  v140.toNat
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x256 : Shape := ⟨2, ![1024, 256]⟩
abbrev S1024 : Shape := ⟨1, ![1024]⟩
abbrev S_ : Shape := ⟨0, ![]⟩
abbrev S1024x1 : Shape := ⟨2, ![1024, 1]⟩

abbrev nBuf : Space → Nat
  | .hbm => 14
  | .vmem => 0
  | .smem => 0
  | _ => 0

abbrev bufTy : (tb : Table) → Fin (tcTables nBuf tb) → BufTy
  | .hbm, ⟨0, _⟩ => ⟨S1024x256, .bf16⟩
  | .hbm, ⟨1, _⟩ => ⟨S1024, .i32⟩
  | .hbm, ⟨2, _⟩ => ⟨S1024, .i32⟩
  | .hbm, ⟨3, _⟩ => ⟨S1024, .i32⟩
  | .hbm, ⟨4, _⟩ => ⟨S1024, .i32⟩
  | .hbm, ⟨5, _⟩ => ⟨S_, .i32⟩
  | .hbm, ⟨6, _⟩ => ⟨S1024, .i32⟩
  | .hbm, ⟨7, _⟩ => ⟨S1024, .i1⟩
  | .hbm, ⟨8, _⟩ => ⟨S_, .i32⟩
  | .hbm, ⟨9, _⟩ => ⟨S1024, .i32⟩
  | .hbm, ⟨10, _⟩ => ⟨S1024, .i32⟩
  | .hbm, ⟨11, _⟩ => ⟨S1024, .i32⟩
  | .hbm, ⟨12, _⟩ => ⟨S1024x1, .i32⟩
  | .hbm, ⟨13, _⟩ => ⟨S1024x256, .bf16⟩
  | _, _ => ⟨S1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Counting.lean ====
module

public import Idealize.ShloMosaic.PureOps
public import Idealize.ShloMosaic.PureOps.Reduce
public import Idealize.ShloMosaic.Lib.IndicatorCount
public import Idealize.ShloMosaic.Lib.ValueIdxCore
public import Idealize.ShloMosaic.Lib.StableHlo.Predicate

/-! # Counting zeros

The number of zeros in a list of 512 words, read off the sums that the kernel and the preconditions take, and what the
preconditions `bandJ` say of a whole table of 1024 words. -/

@[expose] public section

noncomputable section

namespace Cert.Counting

open Idealize.ShloMosaic Idealize.ShloMosaic.ValueIdx Idealize.ShloMosaic.StableHlo.Predicate

/-- The indices of a vector are its positions. -/
def pos1 (n : ℕ) : Fin n ≃ (⟨1, ![n]⟩ : Shape).Idx where
  toFun k := ix1 k
  invFun i := i 0
  left_inv _ := rfl
  right_inv i := (eq_ix1 i).symm

/-- How many of the words are zero. -/
def zer {n : ℕ} (f : Fin n → BitVec 32) : ℕ := (Finset.univ.filter fun k => f k = 0#32).card

theorem zer_le {n : ℕ} (f : Fin n → BitVec 32) : zer f ≤ n := by
  unfold zer; exact (Finset.card_le_univ _).trans (by simp)

/-- A set of indices counted through an equivalence. -/
theorem card_equiv {ι κ : Type} [Fintype ι] [Fintype κ] (e : ι ≃ κ) (p : κ → Prop) [DecidablePred p] :
    (Finset.univ.filter p).card = (Finset.univ.filter fun k => p (e k)).card := by
  refine (Finset.card_bij (fun k _ => e k) ?_ ?_ ?_).symm
  · intro k hk; simpa using hk
  · intro a _ b _ h; exact e.injective h
  · intro k hk; exact ⟨e.symm k, by simpa using hk, by simp⟩

/-- One half of a table of 1024 words. -/
def half (a : IVec ⟨1, ![1024]⟩ 32) (h : Fin 2) (k : Fin 512) : BitVec 32 := a (ix1 ⟨h.val * 512 + k.val, by omega⟩)

theorem eq_ix0' (j k : (⟨0, ![]⟩ : Shape).Idx) : j = k := funext fun a => a.elim0

/-- The sum of a vector over all its positions is the fold over them. -/
theorem reduce_all {n : ℕ} (x : IVec ⟨1, ![n]⟩ 32) (init : IVec ⟨0, ![]⟩ 32) (h : (⟨1, ![n]⟩ : Shape).ReducesTo [0] ⟨0, ![]⟩)
    (hu : 0 < (⟨0, ![]⟩ : Shape).numel) (j : (⟨0, ![]⟩ : Shape).Idx) (hi : ∀ i, init i = 0#32) :
    Host.reduce IntOp.addi x init h hu j = (Finset.univ : Finset (Fin n)).fold IntOp.addi 0#32 fun k => x (ix1 k) := by
  rw [Host.reduce_eq_fold, hi]
  rw [show (Finset.univ.filter fun i => h.drop i = j) = Finset.univ.map (pos1 n).toEmbedding from by
    ext i; simp only [Finset.mem_filter, Finset.mem_univ, true_and, Finset.mem_map_equiv, iff_true]; exact eq_ix0' _ _]
  rw [Finset.fold_map]; rfl

/-- A zero test as a word, summed, counts the zeros. -/
theorem fold_zer {n : ℕ} (f : Fin n → BitVec 32) :
    (Finset.univ : Finset (Fin n)).fold IntOp.addi 0#32 (fun k => (IntOp.cmpi .eq (f k) 0#32).setWidth 32) = BitVec.ofNat 32 (zer f) := by
  rw [IndicatorCount.fold_addi_setWidth_eq_card]
  simp only [cmpi_eq_iff]; rfl

theorem setWidth_select (b : BitVec 1) : Scalar.select b 1#32 0#32 = b.setWidth 32 := by revert b; decide

/-- The printed count of the zeros of one half: of the test against zero, as ones and zeros, the half's slice, summed. -/
theorem count_half (a : IVec ⟨1, ![1024]⟩ 32) (h : Fin 2) (o : ℕ) (ho : o = h.val * 512)
    (hb : (⟨0, ![]⟩ : Shape).BroadcastsInDim ⟨1, ![1024]⟩ ![])
    (hs : (⟨1, ![1024]⟩ : Shape).Slices ![o] ⟨1, ![512]⟩) (hr : (⟨1, ![512]⟩ : Shape).ReducesTo [0] ⟨0, ![]⟩)
    (hu : 0 < (⟨0, ![]⟩ : Shape).numel) (j : (⟨0, ![]⟩ : Shape).Idx) :
    Host.reduce IntOp.addi (extractStridedSlice ⟨1, ![512]⟩ ![o] (select (cmpi .eq a (broadcastInDim ⟨1, ![1024]⟩ ![] hb (constantI ⟨0, ![]⟩ 32 0#32)))
      (broadcastInDim ⟨1, ![1024]⟩ ![] hb (constantI ⟨0, ![]⟩ 32 1#32)) (broadcastInDim ⟨1, ![1024]⟩ ![] hb (constantI ⟨0, ![]⟩ 32 0#32))) hs)
      (constantI ⟨0, ![]⟩ 32 0#32) hr hu j = BitVec.ofNat 32 (zer (half a h)) := by
  refine (reduce_all _ _ hr hu j fun _ => rfl).trans ?_
  rw [← fold_zer]
  refine Finset.fold_congr fun k _ => ?_
  show Scalar.select (IntOp.cmpi .eq (a _) 0#32) 1#32 0#32 = _
  rw [setWidth_select]
  have e : (fun b : Fin 1 => (⟨(![o] : Fin 1 → ℕ) b + ((ix1 k : (⟨1, ![512]⟩ : Shape).Idx) (b.cast hs.1.symm)).val,
      Nat.lt_of_lt_of_le (Nat.add_lt_add_left (Fin.isLt _) _) (hs.2 b)⟩ : Fin ((⟨1, ![1024]⟩ : Shape).size b)))
      = (ix1 ⟨h.val * 512 + k.val, by omega⟩ : (⟨1, ![1024]⟩ : Shape).Idx) := by
    subst ho; funext b; fin_cases b; rfl
  unfold half; rw [← e]

/-! ## The band of a table -/

/-- What `bandJ` says of a table: both the zeros of its first half, and 512 less those of its second, lie from 128j on, below
    128j + 128. -/
structure Band (j : ℕ) (a : IVec ⟨1, ![1024]⟩ 32) : Prop where
  lo0 : 128 * j ≤ zer (half a 0)
  hi0 : zer (half a 0) < 128 * j + 128
  lo1 : 128 * j + zer (half a 1) ≤ 512
  hi1 : 512 < 128 * j + 128 + zer (half a 1)

theorem word_sge (z : ℕ) (hz : z ≤ 1024) (w : BitVec 32) (h : IntOp.cmpi .sge (BitVec.ofNat 32 z) w = 1#1) : w.toInt ≤ z := by
  have h' : w.sle (BitVec.ofNat 32 z) = true := (ofBool_eq_one_iff _).1 h
  rw [BitVec.sle_iff_toInt_le, toInt_ofNat_small z (by omega)] at h'; exact h'
theorem word_slt (z : ℕ) (hz : z ≤ 1024) (w : BitVec 32) (h : IntOp.cmpi .slt (BitVec.ofNat 32 z) w = 1#1) : (z : ℤ) < w.toInt := by
  have h' : (BitVec.ofNat 32 z).slt w = true := (ofBool_eq_one_iff _).1 h
  rw [BitVec.slt_iff_toInt_lt, toInt_ofNat_small z (by omega)] at h'; exact h'
theorem word_sgt (z : ℕ) (hz : z ≤ 1024) (w : BitVec 32) (h : IntOp.cmpi .sgt (BitVec.ofNat 32 z) w = 1#1) : w.toInt < z := by
  have h' : w.slt (BitVec.ofNat 32 z) = true := (ofBool_eq_one_iff _).1 h
  rw [BitVec.slt_iff_toInt_lt, toInt_ofNat_small z (by omega)] at h'; exact h'
theorem word_sle (z : ℕ) (hz : z ≤ 1024) (w : BitVec 32) (h : IntOp.cmpi .sle (BitVec.ofNat 32 z) w = 1#1) : (z : ℤ) ≤ w.toInt := by
  have h' : (BitVec.ofNat 32 z).sle w = true := (ofBool_eq_one_iff _).1 h
  rw [BitVec.sle_iff_toInt_le, toInt_ofNat_small z (by omega)] at h'; exact h'

/-- A table's band from the four comparisons of the two counts. -/
theorem band_of (j : ℕ) (hj : j ≤ 4) (a : IVec ⟨1, ![1024]⟩ 32) (w0 w1 w2 w3 : BitVec 32) (n0 n1 : BitVec 32)
    (e0 : n0 = BitVec.ofNat 32 (zer (half a 0))) (e1 : n1 = BitVec.ofNat 32 (zer (half a 1)))
    (k0 : w0.toInt = 128 * j) (k1 : w1.toInt = 128 * j + 128) (k2 : w2.toInt = 384 - 128 * j) (k3 : w3.toInt = 512 - 128 * j)
    (h0 : IntOp.cmpi .sge n0 w0 = 1#1) (h1 : IntOp.cmpi .slt n0 w1 = 1#1) (h2 : IntOp.cmpi .sgt n1 w2 = 1#1)
    (h3 : IntOp.cmpi .sle n1 w3 = 1#1) : Band j a := by
  subst e0 e1
  have z0 := zer_le (half a 0); have z1 := zer_le (half a 1)
  have := word_sge _ (by omega) _ h0; have := word_slt _ (by omega) _ h1
  have := word_sgt _ (by omega) _ h2; have := word_sle _ (by omega) _ h3
  constructor <;> omega

end Cert.Counting

end
-- ==== Proof.IdealTalk.lean ====
module

public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import Idealize.ShloMosaic.Lib.Pipeline.Regions
public import Idealize.ShloMosaic.Lib.Pipeline.Kit
public import Idealize.ShloMosaic.Lib.Rounds
public import Idealize.ShloMosaic.Lib.Rounds.Family
public import Idealize.ShloMosaic.Lib.StableHlo
public import Idealize.ShloMosaic.Lib.Tactic
public import Idealize.ShloMosaic.PureOps
public import Idealize.ShloMosaic.Lib.Pipeline.RegionTalk
public import Idealize.ShloMosaic.Lib.Pipeline.TalkSites

/-! # Who talks to whom

Each device exchanges four windows of 128 rows with the one device across the `y` axis. Here: that partner, the four
windows of the two scratch buffers, the nine semaphore cells of a device, and the schedule of one round that says what
every arrival at a cell carries. Which windows travel is a parameter `S`; what a device lays out in its send buffer is a
parameter `stg`. -/

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## The partner -/

/-- The device across `y`. -/
def pr (c : Dev nD) : Dev nD := ⟨(if c.val / 4 % 2 = 0 then c.val + 4 else c.val - 4) % 16, Nat.mod_lt _ (by decide)⟩

theorem pr_pr : ∀ c : Dev nD, pr (pr c) = c := by decide
theorem pr_ne : ∀ c : Dev nD, pr c ≠ c := by decide
theorem pr_y : ∀ c : Dev nD, (pr c).val / 4 % 2 = 1 - c.val / 4 % 2 := by decide
theorem pr_inj : Function.Injective pr := fun a b h => by rw [← pr_pr a, h, pr_pr]
theorem dev1_eq (c : Dev nD) : (⟨k0_dev1 c, k0_dev1_lt c⟩ : Dev nD) = pr c := by revert c; decide
theorem dev2_eq (c : Dev nD) : (⟨k0_dev2 c, k0_dev2_lt c⟩ : Dev nD) = pr c := by revert c; decide
theorem dev3_eq (c : Dev nD) : (⟨k0_dev3 c, k0_dev3_lt c⟩ : Dev nD) = pr c := by revert c; decide
theorem dev4_eq (c : Dev nD) : (⟨k0_dev4 c, k0_dev4_lt c⟩ : Dev nD) = pr c := by revert c; decide
theorem dev5_eq (c : Dev nD) : (⟨k0_dev5 c, k0_dev5_lt c⟩ : Dev nD) = pr c := by revert c; decide

/-! ## The windows -/

/-- The offsets of window `k`. -/
abbrev off : Fin 4 → Fin 2 → Nat
  | 0 => ![0, 0] | 1 => ![128, 0] | 2 => ![256, 0] | 3 => ![384, 0]

theorem off_zero : ∀ k, off k 0 = 128 * k.val := by decide
theorem off_one : ∀ k, off k 1 = 0 := by decide
theorem inb : ∀ k a, off k a + S128x256.size a ≤ S512x256.size a := by decide

/-- Window `k` of the send buffer. -/
abbrev stgW (k : Fin 4) : Memref sig .tc .vmem S128x256 .bf16 :=
  (Memref.whole cc0_scratch0).slice (Rect.unit (s := S512x256) (off k) S128x256.size (inb k)) (fun _ => rfl)
/-- Window `k` of the receive buffer. -/
abbrev comW (k : Fin 4) : Memref sig .tc .vmem S128x256 .bf16 :=
  (Memref.whole cc0_scratch1).slice (Rect.unit (s := S512x256) (off k) S128x256.size (inb k)) (fun _ => rfl)

theorem words : ∀ k, (Rect.unit (s := S512x256) (off k) S128x256.size (inb k)).WholeWords (EltTy.packing .bf16)
  | 0 => wordsbf16_S512x256_S128x256_0_0 | 1 => wordsbf16_S512x256_S128x256_128_0
  | 2 => wordsbf16_S512x256_S128x256_256_0 | 3 => wordsbf16_S512x256_S128x256_384_0

/-- The elements of window `k`. -/
def win (k : Fin 4) : Finset S512x256.Idx := (Rect.unit (s := S512x256) (off k) S128x256.size (inb k)).set

theorem mem_win {k : Fin 4} {i : S512x256.Idx} : i ∈ win k ↔ 128 * k.val ≤ (i 0).val ∧ (i 0).val < 128 * k.val + 128 := by
  unfold win; rw [Rect.mem_set_unit]
  constructor
  · intro h; have := h 0; rw [off_zero] at this; exact this
  · intro h a
    fin_cases a
    · show off k 0 ≤ (i 0).val ∧ (i 0).val < off k 0 + 128; rw [off_zero]; exact h
    · show off k 1 ≤ (i 1).val ∧ (i 1).val < off k 1 + 256; rw [off_one]; have : (i 1).val < 256 := (i 1).isLt; omega

theorem stgW_set (k : Fin 4) : (stgW k).view.set = win k := View.set_slice_whole cc0_scratch0 _
theorem comW_set (k : Fin 4) : (comW k).view.set = win k := View.set_slice_whole cc0_scratch1 _

theorem win_disjoint : ∀ k ∈ (Finset.univ : Finset (Fin 4)), ∀ k' ∈ (Finset.univ : Finset (Fin 4)), k ≠ k' → Disjoint (win k) (win k') := by
  intro k _ k' _ h
  refine Finset.disjoint_left.mpr fun i hi hi' => h ?_
  rw [mem_win] at hi hi'; apply Fin.ext; omega

theorem win_cover : (Finset.univ : Finset (Fin 4)).biUnion win = Finset.univ := by
  refine Finset.eq_univ_iff_forall.mpr fun i => Finset.mem_biUnion.mpr ?_
  have h : (i 0).val < 512 := (i 0).isLt
  refine ⟨⟨(i 0).val / 128, by omega⟩, Finset.mem_univ _, mem_win.mpr ?_⟩
  simp only; omega

/-- A window written from the same window of another buffer holds that buffer's elements. -/
theorem write_read {k : Fin 4} (fd fs : S512x256.Idx → Elt F .bf16) (i : S512x256.Idx) (hi : i ∈ win k) :
    (comW k).view.write (Elt F) fd ((stgW k).view.read (Elt F) fs) Finset.univ i = fs i := by
  obtain ⟨j, -, rfl⟩ := Finset.mem_map.mp ((comW_set k).symm ▸ hi : i ∈ (comW k).view.set)
  exact (View.write_emb_of_mem (v := (comW k).view) fd _ (Finset.mem_univ j)).trans rfl

/-! ## The cells -/

/-- The semaphore of the sends of window `k`. -/
abbrev sendS (k : Fin 4) : DmaSem sig := ⟨3 + k.val, by show 3 + k.val < 11; omega⟩
/-- The semaphore of the arrivals of window `k`. -/
abbrev recvS (k : Fin 4) : DmaSem sig := ⟨7 + k.val, by show 7 + k.val < 11; omega⟩

abbrev barS : Sem sig := (SemArray.scalar (sig.barrier 0 rfl) : Sems sig S_).sem

abbrev barC (c : Dev nD) : GSem nD τ sig := ((c : Thread nD τ), .reg barS)
abbrev sendC (c : Dev nD) (k : Fin 4) : GSem nD τ sig := ((c : Thread nD τ), .dma (sendS k))
abbrev recvC (c : Dev nD) (k : Fin 4) : GSem nD τ sig := ((c : Thread nD τ), .dma (recvS k))

/-- What a semaphore is for. -/
inductive Role
  | bar | send (k : Fin 4) | recv (k : Fin 4) | other
deriving DecidableEq

/-- The role of a DMA semaphore, by its number. -/
def roleOf (n : ℕ) : Role :=
  if h : n < 3 then .other else if h' : n - 3 < 4 then .send ⟨n - 3, h'⟩ else if h'' : n - 7 < 4 then .recv ⟨n - 7, h''⟩ else .other
/-- The role of a semaphore. -/
def role : SemLoc sig → Role
  | .reg _ => .bar
  | .dma s => roleOf s.val

theorem role_send : ∀ k, role (.dma (sendS k)) = .send k := by decide
theorem role_recv : ∀ k, role (.dma (recvS k)) = .recv k := by decide
theorem role_bar : role (.reg barS) = .bar := rfl

/-! ## The schedule -/

abbrev UU : Type := UR sig nD τ × UR sig nD τ
local notation "𝕄" => MT nD τ sig ℕ (Elt F) ℕ UU ℕ
abbrev EP : Emb (UR sig nD τ) 𝕄 := embL
abbrev ER : Emb (UR sig nD τ) 𝕄 := embR

/-- One window's credit. -/
abbrev N : ℕ := (comW 0).view.dmaCredit
theorem N_pos : 0 < N := View.dmaCredit_pos _ (by decide)
theorem N_eq (k : Fin 4) : (comW k).view.dmaCredit = N := rfl
theorem N_eq' (k : Fin 4) : (stgW k).view.dmaCredit = N := rfl

section Sched

variable (S : Dev nD → Fin 4 → Bool) (stg : Dev nD → S512x256.Idx → Elt F .bf16)

/-- What device `d` is given, at the start, of its partner's buffers: for a window it will send, the partner's receive
    window at any contents and that the partner's arrival cell is open. -/
def lend (d : Dev nD) (k : Fin 4) : sProp 𝕄 :=
  if S d k = true then
    iprop((∃ f : Buf (Elt F) ((pr d : Thread nD τ).loc cc0_scratch1), (pr d : Thread nD τ).loc cc0_scratch1 ↦[win k]{fullShare} f) ∗ reached ER (recvC (pr d) k) 0)
  else iprop(emp)

instance lend_storable (d : Dev nD) (k : Fin 4) : BI.Storable (upEmb : UEmb _ 𝕄) (lend (F := F) S d k) := by
  unfold lend; split <;> infer_instance

/-- What an arrival at a cell carries. -/
def pay (g : GSem nD τ sig) : sProp 𝕄 :=
  match role g.2 with
  | .bar => iprop(lend S g.1.1 0 ∗ lend S g.1.1 1 ∗ lend S g.1.1 2 ∗ lend S g.1.1 3)
  | .send k => iprop((g.1.1 : Thread nD τ).loc cc0_scratch0 ↦[win k]{fullShare} (stg g.1.1 : Buf (Elt F) ((g.1.1 : Thread nD τ).loc cc0_scratch0)))
  | .recv k => iprop((g.1.1 : Thread nD τ).loc cc0_scratch1 ↦[win k]{fullShare} (stg (pr g.1.1) : Buf (Elt F) ((g.1.1 : Thread nD τ).loc cc0_scratch1)))
  | .other => iprop(emp)

/-- Whether a cell receives anything. -/
def used (g : GSem nD τ sig) : Bool :=
  match role g.2 with
  | .bar => true | .send k => S g.1.1 k | .recv k => S (pr g.1.1) k | .other => false

/-- One round: the barrier cell gets one unit, a used copy cell one window's credit. -/
def Rd : Schedule (GSem nD τ sig) Unit 𝕄 where
  duties g r := if r = 0 ∧ used S g = true then {()} else ∅
  unitless _ := False
  amount g _ _ := if role g.2 = .bar then 1 else N
  payload g _ _ := pay S stg g
  amount_pos g _ _ _ := by show 0 < (if _ then 1 else N); split; exact Nat.one_pos; exact N_pos

instance Rd_storable (g : GSem nD τ sig) (r : ℕ) (d : Unit) : BI.Storable (upEmb : UEmb _ 𝕄) ((Rd S stg).payload g r d) := by
  show BI.Storable (upEmb : UEmb _ 𝕄) (pay S stg g)
  unfold pay; split <;> infer_instance

theorem used_bar (c : Dev nD) : used S (barC c) = true := rfl
theorem used_send (c : Dev nD) (k : Fin 4) : used S (sendC c k) = S c k := by unfold used; rw [role_send]
theorem used_recv (c : Dev nD) (k : Fin 4) : used S (recvC c k) = S (pr c) k := by unfold used; rw [role_recv]

theorem duties_used {g : GSem nD τ sig} (h : used S g = true) : (Rd (F := F) S stg).duties g 0 = {()} := if_pos ⟨rfl, h⟩
theorem duties_unused {g : GSem nD τ sig} (h : used S g ≠ true) (r : ℕ) : (Rd (F := F) S stg).duties g r = ∅ := if_neg fun h' => h h'.2
theorem duties_later (g : GSem nD τ sig) (r : ℕ) (hr : 1 ≤ r) : (Rd (F := F) S stg).duties g r = ∅ := if_neg fun h' => by omega

theorem amount_bar (c : Dev nD) : (Rd (F := F) S stg).amount (barC c) 0 () = 1 := rfl
theorem amount_send (c : Dev nD) (k : Fin 4) : (Rd (F := F) S stg).amount (sendC c k) 0 () = N := by
  show (if role _ = .bar then 1 else N) = N; rw [role_send, if_neg (by intro h; cases h)]
theorem amount_recv (c : Dev nD) (k : Fin 4) : (Rd (F := F) S stg).amount (recvC c k) 0 () = N := by
  show (if role _ = .bar then 1 else N) = N; rw [role_recv, if_neg (by intro h; cases h)]

theorem expect_used {g : GSem nD τ sig} (h : used S g = true) : (Rd (F := F) S stg).expect g 0 = (Rd (F := F) S stg).amount g 0 () := by
  unfold Schedule.expect Schedule.amountOf; rw [duties_used S stg h, Finset.sum_singleton]

theorem rest_used {g : GSem nD τ sig} (h : used S g = true) :
    bigSep ((Rd (F := F) S stg).duties g 0 \ ∅) (fun d => (Rd S stg).payload g 0 d) = pay S stg g := by
  rw [Finset.sdiff_empty, duties_used S stg h, bigSep_singleton]; rfl

theorem pay_bar (c : Dev nD) : pay S stg (barC c) = iprop(lend S c 0 ∗ lend S c 1 ∗ lend S c 2 ∗ lend S c 3) := rfl
theorem pay_send (c : Dev nD) (k : Fin 4) : pay S stg (sendC c k)
    = iprop((c : Thread nD τ).loc cc0_scratch0 ↦[win k]{fullShare} (stg c : Buf (Elt F) ((c : Thread nD τ).loc cc0_scratch0))) := by unfold pay; rw [role_send]
theorem pay_recv (c : Dev nD) (k : Fin 4) : pay S stg (recvC c k)
    = iprop((c : Thread nD τ).loc cc0_scratch1 ↦[win k]{fullShare} (stg (pr c) : Buf (Elt F) ((c : Thread nD τ).loc cc0_scratch1))) := by unfold pay; rw [role_recv]

end Sched

/-! ## The cells and tokens as one family -/

/-- The scoped semaphores of the copies. -/
def osem : Fin 8 → SemLoc sig := fun k => .dma ⟨3 + k.val, by show 3 + k.val < 11; omega⟩

/-- The triples device `c` pays. -/
def toksOf (c : Dev nD) : Finset (GSem nD τ sig × ℕ × Unit) :=
  insert (barC (pr c), 0, ()) ((Finset.univ.image fun k => (recvC (pr c) k, 0, ())) ∪ (Finset.univ.image fun k => (sendC c k, 0, ())))

/-- The payer of a triple. -/
def payer (g : GSem nD τ sig) : Dev nD := match role g.2 with | .send _ => g.1.1 | _ => pr g.1.1

theorem payer_bar (c : Dev nD) : payer (barC (pr c)) = c := pr_pr c
theorem payer_send (c : Dev nD) (k : Fin 4) : payer (sendC c k) = c := by unfold payer; rw [role_send]
theorem payer_recv (c : Dev nD) (k : Fin 4) : payer (recvC (pr c) k) = c := by unfold payer; rw [role_recv]; exact pr_pr c

/-- The barrier cells, the copy cells of the one kernel launch, and who pays what. -/
def Fm : TalkSites.Fam nD τ sig Unit 1 where
  bar := .reg barS
  dorm _ := Finset.univ.image osem
  toks c _ := toksOf c
  semKey _ := 0
  hsem j _ _ := (Subsingleton.elim _ _)
  hbar _ := by decide
  tokKey x := (payer x.1, 0)
  htok c j x hx := by
    have hj : j = 0 := Subsingleton.elim _ _
    subst hj
    refine Prod.ext ?_ rfl
    rcases Finset.mem_insert.mp hx with rfl | hx
    · exact payer_bar c
    rcases Finset.mem_union.mp hx with hx | hx
    · obtain ⟨k, -, rfl⟩ := Finset.mem_image.mp hx; exact payer_recv c k
    · obtain ⟨k, -, rfl⟩ := Finset.mem_image.mp hx; exact payer_send c k

theorem send_dorm (k : Fin 4) : (.dma (sendS k) : SemLoc sig) ∈ Fm.dorm 0 := by revert k; decide
theorem recv_dorm (k : Fin 4) : (.dma (recvS k) : SemLoc sig) ∈ Fm.dorm 0 := by revert k; decide

end Cert.KernelIdeal.Talk

end
-- ==== Proof.IdealSteps.lean ====
module

public import proofs.«01_k».proof.Proof.IdealTalk

/-! # One window's steps

The kernel body restated over the window number, and what a conditional send, a conditional wait for an arrival and a
conditional wait for a send's completion do, once for every window. -/

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

abbrev 𝒱₀ : Variants := Variants.none

/-- The partner as the `k`-th send computes it. -/
abbrev pd : Fin 4 → Dev nD → Dev nD
  | 0, c => ⟨k0_dev2 c, k0_dev2_lt c⟩ | 1, c => ⟨k0_dev3 c, k0_dev3_lt c⟩
  | 2, c => ⟨k0_dev4 c, k0_dev4_lt c⟩ | 3, c => ⟨k0_dev5 c, k0_dev5_lt c⟩
theorem pd_eq : ∀ k c, pd k c = pr c
  | 0, c => dev2_eq c | 1, c => dev3_eq c | 2, c => dev4_eq c | 3, c => dev5_eq c

/-! ## The programs, each before a continuation -/

/-- The conditional send of window `k` to device `d`, then `K`. -/
def sendTo {α : Type} (k : Fin 4) (d : Dev nD) (v : BitVec 32) (K : Prog (TpuEff nD τ sig (Elt F) Λ₀ .tc) α) : Prog (TpuEff nD τ sig (Elt F) Λ₀ .tc) α :=
  if Scalar.cmpi .ne v 0#32 = 1#1 then
    .op (.enqueueDma (stgW k) (.remote (Dev.tc d) (comW k) (.dma (sendS k))) (.dma (recvS k))
      ((Memref.isWhole_whole cc0_scratch0).wordExact_slice rfl _ (words k))
      ((Memref.isWhole_whole cc0_scratch1).wordExact_slice rfl _ (words k)) ⟨⟨rfl, Or.inl rfl⟩, trivial⟩) fun _ => K
  else K
/-- The conditional send of window `k`, to the device computed for it. -/
abbrev sendP {α : Type} (k : Fin 4) (c : Dev nD) (v : BitVec 32) (K : Prog (TpuEff nD τ sig (Elt F) Λ₀ .tc) α) : Prog (TpuEff nD τ sig (Elt F) Λ₀ .tc) α := sendTo k (pd k c) v K
/-- The conditional wait for the arrival of window `k`, then `K`. -/
def recvP {α : Type} (k : Fin 4) (v : BitVec 32) (K : Prog (TpuEff nD τ sig (Elt F) Λ₀ .tc) α) : Prog (TpuEff nD τ sig (Elt F) Λ₀ .tc) α :=
  if Scalar.cmpi .ne v 0#32 = 1#1 then
    .op (.waitDma2 (recvS k) (stgW k) (comW k) ((Memref.isWhole_whole cc0_scratch0).wordExact_slice rfl _ (words k))
      ((Memref.isWhole_whole cc0_scratch1).wordExact_slice rfl _ (words k))) fun _ => K
  else K
/-- The conditional wait for the completion of the send of window `k`, then `K`. -/
def doneP {α : Type} (k : Fin 4) (v : BitVec 32) (K : Prog (TpuEff nD τ sig (Elt F) Λ₀ .tc) α) : Prog (TpuEff nD τ sig (Elt F) Λ₀ .tc) α :=
  if Scalar.cmpi .ne v 0#32 = 1#1 then
    .op (.waitDma2 (sendS k) (comW k) (stgW k) ((Memref.isWhole_whole cc0_scratch1).wordExact_slice rfl _ (words k))
      ((Memref.isWhole_whole cc0_scratch0).wordExact_slice rfl _ (words k))) fun _ => K
  else K

section Steps

variable {α : Type} (S : Dev nD → Fin 4 → Bool) (stg : Dev nD → S512x256.Idx → Elt F .bf16)

/-- A window of the send buffer, filled. -/
abbrev stgPt (c : Dev nD) (k : Fin 4) : sProp 𝕄 :=
  iprop((c : Thread nD τ).loc cc0_scratch0 ↦[win k]{fullShare} (stg c : Buf (Elt F) ((c : Thread nD τ).loc cc0_scratch0)))
/-- A window of the receive buffer, at contents `f`. -/
abbrev comPt (c : Dev nD) (k : Fin 4) (f : S512x256.Idx → Elt F .bf16) : sProp 𝕄 :=
  iprop((c : Thread nD τ).loc cc0_scratch1 ↦[win k]{fullShare} (f : Buf (Elt F) ((c : Thread nD τ).loc cc0_scratch1)))
/-- What the device owes, whatever it waited on. -/
abbrev ow (c : Dev nD) (O : CellTallies nD τ sig ℕ) : sProp 𝕄 := iprop(∃ W, owes (c : Thread nD τ) O W)

/-- What sending window `k` pays: the credit of the partner's arrival cell. -/
def due (c : Dev nD) (k : Fin 4) : CellTallies nD τ sig ℕ := if S c k = true then tallyAt (recvC (pr c) k) 2 N else 0

/-- After the send: the credit to wait with, or the window that was not sent. -/
def sent (c : Dev nD) (k : Fin 4) : sProp 𝕄 := if S c k = true then cred (tallyAt (sendC c k) 2 N) else stgPt stg c k
/-- Before the arrival: the credit to wait with, or the window that nobody writes. -/
def await (c : Dev nD) (k : Fin 4) : sProp 𝕄 :=
  if S (pr c) k = true then cred (tallyAt (recvC c k) 2 N) else iprop(∃ f, comPt c k f)
/-- A receive window that holds the partner's rows where the partner sends them. -/
def got (c : Dev nD) (k : Fin 4) : sProp 𝕄 :=
  iprop(∃ g, ⌜S (pr c) k = true → ∀ i ∈ win k, g i = stg (pr c) i⌝ ∗ comPt c k g)

/-- How many rounds a copy cell sees. -/
def rds (b : Bool) : ℕ := if b = true then 1 else 0

theorem send_step (κs κr : ℕ) (k : Fin 4) (c : Dev nD) (v : BitVec 32) (hv : Scalar.cmpi .ne v 0#32 = 1#1 ↔ S c k = true)
    (O : CellTallies nD τ sig ℕ) (K : Prog (TpuEff nD τ sig (Elt F) Λ₀ .tc) α) (Kt : α → sProp 𝕄) :
    iprop(cellInv ER (Rd S stg) κs (sendC c k) ∗ cellInv ER (Rd S stg) κr (recvC (pr c) k) ∗ stgPt stg c k
        ∗ dutyTok ER (sendC c k) 0 () ∗ reached ER (sendC c k) 0 ∗ dutyTok ER (recvC (pr c) k) 0 () ∗ lend S c k
        ∗ ow c (O + due S c k) ∗ (iprop(sent S stg c k ∗ ow c O) -∗ wp frame (wpE (defs₀ (F := F)) 𝒱₀ c none) Set.univ K Kt))
      ⊢ wp frame (wpE (defs₀ (F := F)) 𝒱₀ c none) Set.univ (sendP (F := F) k c v K) Kt := by
  unfold sendP
  rw [pd_eq k c]
  unfold sendTo sent lend due
  by_cases hS : S c k = true
  · rw [if_pos (hv.mpr hS), if_pos hS, if_pos hS, if_pos hS]
    iintro ⟨#HIs, #HIr, Hst, HtS, #HrS, HtN, ⟨⟨%fd, Hcm⟩, #HrN⟩, ⟨%W, HO⟩, Hk⟩
    iapply (Rounds.wp_send_pointsTo 𝒱₀ ER (Rd S stg) (c : Thread nD τ) none (c' := (pr c : Thread nD τ)) (src := stgW k) (dst := comW k)
        (sS := .dma (sendS k)) (sem := .dma (recvS k)) (q := fullShare) (fs := stg c) (κ₁ := κs) (κ₂ := κr)
        (r₁ := 0) (r₂ := 0) (d₁ := ()) (d₂ := ()) (fd := fd)
        (by rw [duties_used S stg ((used_send S c k).trans hS)]; exact Finset.mem_singleton_self _)
        (by rw [duties_used S stg ((used_recv S (pr c) k).trans (by rw [pr_pr]; exact hS))]; exact Finset.mem_singleton_self _)
        2 2 N rfl (amount_send S stg c k) (amount_recv S stg (pr c) k) O rfl (W := W)
        (by show _ ⊢ pay S stg (sendC c k); rw [pay_send, stgW_set])
        (by
          show _ ⊢ pay S stg (recvC (pr c) k)
          rw [pay_recv, comW_set, pr_pr]
          exact Entails.of_eq (pointsTo_congr fun i hi => write_read fd (stg c) i hi))) $$ [Hst HtS HtN Hcm HO]
    · isplitr; · iexact HIs
      isplitr; · iexact HIr
      isplitl [Hst]; · rw [stgW_set]; iexact Hst
      isplitl [Hcm]; · rw [comW_set]; iexact Hcm
      isplitl [HO]; · iexact HO
      isplitl [HtS]; · iexact HtS
      isplitr; · iexact HrS
      isplitl [HtN]; · iexact HtN
      iexact HrN
    iintro ⟨Hc, HO⟩
    iapply Hk
    isplitl [Hc]; · iexact Hc
    iexists W; iexact HO
  · rw [if_neg (fun h => hS (hv.mp h)), if_neg hS, if_neg hS, if_neg hS, add_zero]
    iintro ⟨-, -, Hst, -, -, -, -, HO, Hk⟩
    iapply Hk
    isplitl [Hst] <;> iassumption

theorem recv_step (κ : ℕ) (k : Fin 4) (c : Dev nD) (v : BitVec 32) (hv : Scalar.cmpi .ne v 0#32 = 1#1 ↔ S (pr c) k = true)
    (K : Prog (TpuEff nD τ sig (Elt F) Λ₀ .tc) α) (Kt : α → sProp 𝕄) :
    iprop(cellInv ER (Rd S stg) κ (recvC c k) ∗ atPos ER (recvC c k) 0 ∅ 0 ∗ await S c k ∗ ow c 0
        ∗ (iprop(atPos ER (recvC c k) (rds (S (pr c) k)) ∅ 0 ∗ got S stg c k ∗ ow c 0) -∗ wp frame (wpE (defs₀ (F := F)) 𝒱₀ c none) Set.univ K Kt))
      ⊢ wp frame (wpE (defs₀ (F := F)) 𝒱₀ c none) Set.univ (recvP (F := F) k v K) Kt := by
  unfold recvP await got rds
  by_cases hS : S (pr c) k = true
  · rw [if_pos (hv.mpr hS), if_pos hS, if_pos hS]
    have hu : used S (recvC c k) = true := (used_recv S c k).trans hS
    iintro ⟨#HI, Hat, Hc, ⟨%W, HO⟩, Hk⟩
    iapply (Rounds.wp_wait_rest_token 𝒱₀ ER (Rd S stg) (c : Thread nD τ) none (κ := κ)
        (wpE_waitDma2_eq (src := stgW k) (dst := comW k) 𝒱₀ (c : Thread nD τ) none Set.univ) (Set.mem_univ _) 2 (O := 0) (W := W) (R := 0) (m := 0) (T := ∅)
        ((Nat.zero_add _).trans ((expect_used S stg hu).trans (amount_recv S stg c k)).symm)) $$ [Hc HO Hat]
    · isplitr; · iexact HI
      isplitl [Hc]; · iexact Hc
      isplitl [HO]; · iexact HO
      isplitr; · rw [MayWait_zero]; iempintro
      iexact Hat
    iintro ⟨HO, Hat, -, Hpay⟩
    ihave Hp := (Entails.of_eq ((rest_used S stg hu).trans (pay_recv S stg c k))) $$ Hpay
    iapply Hk
    isplitl [Hat]; · iexact Hat
    isplitl [Hp]
    · iexists (stg (pr c)); isplitr; · ipureintro; exact fun _ _ _ => rfl
      iexact Hp
    iexists _; iexact HO
  · rw [if_neg (fun h => hS (hv.mp h)), if_neg hS, if_neg hS]
    iintro ⟨-, Hat, ⟨%f, Hf⟩, HO, Hk⟩
    iapply Hk
    isplitl [Hat]; · iexact Hat
    isplitl [Hf]
    · iexists f; isplitr; · ipureintro; exact fun h => absurd h hS
      iexact Hf
    iexact HO

theorem done_step (κ : ℕ) (k : Fin 4) (c : Dev nD) (v : BitVec 32) (hv : Scalar.cmpi .ne v 0#32 = 1#1 ↔ S c k = true)
    (K : Prog (TpuEff nD τ sig (Elt F) Λ₀ .tc) α) (Kt : α → sProp 𝕄) :
    iprop(cellInv ER (Rd S stg) κ (sendC c k) ∗ atPos ER (sendC c k) 0 ∅ 0 ∗ sent S stg c k ∗ ow c 0
        ∗ (iprop(atPos ER (sendC c k) (rds (S c k)) ∅ 0 ∗ stgPt stg c k ∗ ow c 0) -∗ wp frame (wpE (defs₀ (F := F)) 𝒱₀ c none) Set.univ K Kt))
      ⊢ wp frame (wpE (defs₀ (F := F)) 𝒱₀ c none) Set.univ (doneP (F := F) k v K) Kt := by
  unfold doneP sent rds
  by_cases hS : S c k = true
  · rw [if_pos (hv.mpr hS), if_pos hS, if_pos hS]
    have hu : used S (sendC c k) = true := (used_send S c k).trans hS
    iintro ⟨#HI, Hat, Hc, ⟨%W, HO⟩, Hk⟩
    iapply (Rounds.wp_wait_rest_token 𝒱₀ ER (Rd S stg) (c : Thread nD τ) none (κ := κ)
        (wpE_waitDma2_eq (src := comW k) (dst := stgW k) 𝒱₀ (c : Thread nD τ) none Set.univ) (Set.mem_univ _) 2 (O := 0) (W := W) (R := 0) (m := 0) (T := ∅)
        ((Nat.zero_add _).trans ((expect_used S stg hu).trans (amount_send S stg c k)).symm)) $$ [Hc HO Hat]
    · isplitr; · iexact HI
      isplitl [Hc]; · iexact Hc
      isplitl [HO]; · iexact HO
      isplitr; · rw [MayWait_zero]; iempintro
      iexact Hat
    iintro ⟨HO, Hat, -, Hpay⟩
    ihave Hp := (Entails.of_eq ((rest_used S stg hu).trans (pay_send S stg c k))) $$ Hpay
    iapply Hk
    isplitl [Hat]; · iexact Hat
    isplitl [Hp]; · iexact Hp
    iexists _; iexact HO
  · rw [if_neg (fun h => hS (hv.mp h)), if_neg hS, if_neg hS]
    iintro ⟨-, Hat, Hf, HO, Hk⟩
    iapply Hk
    isplitl [Hat]; · iexact Hat
    isplitl [Hf] <;> iassumption

end Steps

end Cert.KernelIdeal.Talk

end
-- ==== Proof.IdealParts.lean ====
module

public import proofs.«01_k».proof.Proof.IdealSteps
public import Idealize.ShloMosaic.Lib.Pipeline.SiteBlocks

/-! # The parts of the body as operations

The body's five parts, each as a rule about the resources it takes and gives back, and then the body whole. -/

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv mayWait_of mem_L')
open Cert.KernelIdeal Cert.KernelIdeal.Gen

variable {F : FTy → Type} [FloatOps F]

local notation "𝕄" => MT nD τ sig ℕ (Elt F) ℕ UU ℕ

/-! ## Words -/

/-- Whether the device is on the first row of the `y` axis. -/
abbrev topBit (c : Dev nD) : BitVec 1 := Scalar.cmpi .eq (Scalar.remsi (Scalar.divsi (Dev.word c) 4#32) 2#32) 0#32
abbrev loW : Fin 4 → BitVec 32 | 0 => 0#32 | 1 => 128#32 | 2 => 256#32 | 3 => 384#32
abbrev hiW : Fin 4 → BitVec 32 | 0 => 128#32 | 1 => 256#32 | 2 => 384#32 | 3 => 512#32
/-- The word that decides the send of window `k`, from the count of zeros. -/
abbrev sendV (b : BitVec 1) (n : BitVec 32) (k : Fin 4) : BitVec 32 := Scalar.extui (Scalar.select b (Scalar.cmpi .slt n (hiW k)) (Scalar.cmpi .sgt n (loW k)))
/-- The word that decides the arrival of window `k`, from the count of ones. -/
abbrev recvV (b : BitVec 1) (n : BitVec 32) (k : Fin 4) : BitVec 32 := Scalar.extui (Scalar.select b (Scalar.cmpi .sgt n (loW k)) (Scalar.cmpi .slt n (hiW k)))
abbrev isSet (v : BitVec 32) : Prop := Scalar.cmpi .ne v 0#32 = 1#1
/-- The count of zeros, as the body reads it. -/
abbrev cnt (d : Vec F S1x512 .i32) : BitVec 32 := extractAt ![0, 0, 0] (k0_pay5 (k0_pay4 (F := F) d)) inpos_S1x1x1_p0_0_0
/-- The row numbers. -/
abbrev rowsI : IVec S512x512 32 := iota .tc S512x512 32 [0] iota_S512x512_d0_w32
/-- The rows in sorted order, from the bucket numbers `d` and the rows `x`. -/
abbrev sortedA (d : Vec F S1x512 .i32) (x : Vec F S512x256 .bf16) : FVec F S512x256 .bf16 :=
  k0_pay6 (k0_pay1 d) rowsI (k0_pay2 d) (k0_pay3 d) (k0_pay4 d) x
abbrev sortedB (d : Vec F S1x512 .i32) (x : Vec F S512x256 .bf16) : FVec F S512x256 .bf16 :=
  k0_pay7 (k0_pay1 d) rowsI (k0_pay2 d) (k0_pay3 d) (k0_pay4 d) x
/-- The merged rows, from the rows `g` in the receive buffer. -/
abbrev merged (c : Dev nD) (d : Vec F S1x512 .i32) (x g : Vec F S512x256 .bf16) : FVec F S512x256 .bf16 :=
  k0_pay9 (cnt d) (sortedA d x) (k0_pay8 (topBit c) (k0_pay4 (F := F) d)) g

/-! ## The parts as operations -/

abbrev PT1 : Type := Σ' (d0 : Dev nD) (v2 : BitVec 32) (v8 : BitVec 32) (v9 : BitVec 32) (v10 : BitVec 1) (v11 : Sems sig S_) (v21 : IVec S1x512 1) (v22 : IVec S512x512 32) (v31 : FVec F S1x512 .f32) (v36 : FVec F S1x512 .f32), IVec S1x1x512 32
abbrev PT2 : Type := Σ' (v41 : BitVec 32) (v59 : FVec F S512x256 .bf16) (v67 : IVec S512x1 1) (v68 : BitVec 32), BitVec 32

abbrev w2 (c : Dev nD) : BitVec 32 := Scalar.remsi (Scalar.divsi (Dev.word c) 8#32) 2#32
abbrev w8 (c : Dev nD) : BitVec 32 := Scalar.remsi (Scalar.divsi (Dev.word c) 1#32) 4#32
abbrev w9 (c : Dev nD) : BitVec 32 := Scalar.subi 1#32 (Scalar.remsi (Scalar.divsi (Dev.word c) 4#32) 2#32)

/-- What part 1 returns. -/
abbrev res1 (c : Dev nD) (d : Vec F S1x512 .i32) : PT1 (F := F) :=
  ⟨c, w2 c, w8 c, w9 c, topBit c, SemArray.scalar (sig.barrier 0 rfl), k0_pay1 d, rowsI, k0_pay2 d, k0_pay3 d, k0_pay4 d⟩
/-- What part 2 returns. -/
abbrev res2 (c : Dev nD) (d : Vec F S1x512 .i32) (x : Vec F S512x256 .bf16) : PT2 (F := F) :=
  ⟨cnt d, sortedA d x, k0_pay8 (topBit c) (k0_pay4 (F := F) d), Scalar.subi 512#32 (cnt d), sendV (topBit c) (cnt d) 1⟩

abbrev rectX : Rect S512x256 := Rect.unit (s := S512x256) ![0, 0] S512x256.size inb_S512x256_S512x256_0_0
abbrev rectD : Rect S1x512 := Rect.unit (s := S1x512) ![0, 0] S1x512.size inb_S1x512_S1x512_0_0

def prog1 : Prog (TpuEff nD τ sig (Elt F) Λ₀ .tc) (PT1 (F := F)) :=
  k0_part1 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3
def prog2 (c : Dev nD) (d : Vec F S1x512 .i32) : Prog (TpuEff nD τ sig (Elt F) Λ₀ .tc) (PT2 (F := F)) :=
  k0_part2 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3
    c (w2 c) (w8 c) (w9 c) (topBit c) (SemArray.scalar (sig.barrier 0 rfl)) (k0_pay1 d) rowsI (k0_pay2 d) (k0_pay3 d) (k0_pay4 d)
def prog3 (c : Dev nD) (n : BitVec 32) : Prog (TpuEff nD τ sig (Elt F) Λ₀ .tc) (BitVec 32) :=
  k0_part3 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3
    c (w2 c) (w8 c) (w9 c) (topBit c) n (Scalar.subi 512#32 n) (sendV (topBit c) n 1)
def prog4 (c : Dev nD) (n : BitVec 32) (a : FVec F S512x256 .bf16) (e : IVec S512x1 1) : Prog (TpuEff nD τ sig (Elt F) Λ₀ .tc) (BitVec 32) :=
  k0_part4 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3
    (w2 c) (w8 c) (w9 c) (topBit c) n a e (Scalar.subi 512#32 n) 384#32
/-- The whole body, on the buffers it runs on. -/
def progB : Prog (TpuEff nD τ sig (Elt F) Λ₀ .tc) PUnit :=
  cc0_body (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3

set_option maxRecDepth 65536 in
theorem prog1_eq : prog1 (F := F) = .op .deviceId fun c =>
    .op (.semSignal (Dev.tc (⟨k0_dev1 c, k0_dev1_lt c⟩ : Dev nD)) barS 1) fun _ =>
    .op (.load (Memref.whole cc0_stg1_0) rectD.toLoadRect (View.loadsAt_vmem h_S1x512)) fun d =>
    .ret (res1 c d) := by
  unfold prog1; rw [k0_part1_eq_skeleton]; rfl

set_option maxRecDepth 65536 in
theorem prog2_eq (c : Dev nD) (d : Vec F S1x512 .i32) : prog2 (F := F) c d =
    .op (.load (Memref.whole cc0_stg0_0) rectX.toLoadRect (View.loadsAt_vmem h_S512x256)) fun x =>
    .op (.load (Memref.whole cc0_scratch0) rectX.toLoadRect (View.loadsAt_vmem h_S512x256)) fun _ =>
    .op (.store (Memref.whole cc0_scratch0) rectX (sortedB d x) Finset.univ (View.stores_vmem h_S512x256 ((Memref.isWhole_whole cc0_scratch0).storeExact_slice rfl _ packedbf16_S512x256_S512x256_0_0) (fun _ => rfl)) (.inl rfl)) fun _ =>
    .op (.semWait barS 1) fun _ =>
    sendP 0 c (sendV (topBit c) (cnt d) 0) <| .ret (res2 c d x) := by
  unfold prog2; rw [k0_part2_eq_skeleton]; rfl

set_option maxRecDepth 65536 in
set_option maxHeartbeats 4000000 in
theorem prog3_eq (c : Dev nD) (n : BitVec 32) : prog3 (F := F) c n =
    (sendP 1 c (sendV (topBit c) n 1) <| sendP 2 c (sendV (topBit c) n 2) <| sendP 3 c (sendV (topBit c) n 3) <| recvP 0 (recvV (topBit c) (Scalar.subi 512#32 n) 0) <| recvP 1 (recvV (topBit c) (Scalar.subi 512#32 n) 1) <| recvP 2 (recvV (topBit c) (Scalar.subi 512#32 n) 2) <| .ret 384#32) := by
  unfold prog3; rw [k0_part3_eq_skeleton]; rfl

set_option maxRecDepth 65536 in
set_option maxHeartbeats 4000000 in
theorem prog4_eq (c : Dev nD) (n : BitVec 32) (a : FVec F S512x256 .bf16) (e : IVec S512x1 1) : prog4 (F := F) c n a e =
    (recvP 3 (recvV (topBit c) (Scalar.subi 512#32 n) 3) <| .op (.load (Memref.whole cc0_scratch1) rectX.toLoadRect (View.loadsAt_vmem h_S512x256)) fun g =>
    .op (.load (Memref.whole cc0_stg2_0) rectX.toLoadRect (View.loadsAt_vmem h_S512x256)) fun _ =>
    .op (.store (Memref.whole cc0_stg2_0) rectX (k0_pay9 n a e g) Finset.univ (View.stores_vmem h_S512x256 ((Memref.isWhole_whole cc0_stg2_0).storeExact_slice rfl _ packedbf16_S512x256_S512x256_0_0) (fun _ => rfl)) (.inl rfl)) fun _ =>
    doneP 0 (sendV (topBit c) n 0) <| doneP 1 (sendV (topBit c) n 1) <| doneP 2 (sendV (topBit c) n 2) <| .ret (sendV (topBit c) n 3)) := by
  unfold prog4; rw [k0_part4_eq_skeleton]; rfl

/-- What follows part 3. -/
def k3 (r : PT1 (F := F)) (q : PT2 (F := F)) (t : BitVec 32) : Prog (TpuEff nD τ sig (Elt F) Λ₀ .tc) PUnit :=
  k0_part4 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3
      r.2.1 r.2.2.1 r.2.2.2.1 r.2.2.2.2.1 q.1 q.2.1 q.2.2.1 q.2.2.2.1 t >>= fun u => doneP 3 u (.ret ⟨⟩)
/-- What follows part 2. -/
def k2 (r : PT1 (F := F)) (q : PT2 (F := F)) : Prog (TpuEff nD τ sig (Elt F) Λ₀ .tc) PUnit :=
  k0_part3 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3
      r.1 r.2.1 r.2.2.1 r.2.2.2.1 r.2.2.2.2.1 q.1 q.2.2.2.1 q.2.2.2.2 >>= fun t => k3 r q t
/-- What follows part 1. -/
def k1 (r : PT1 (F := F)) : Prog (TpuEff nD τ sig (Elt F) Λ₀ .tc) PUnit :=
  k0_part2 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3
      r.1 r.2.1 r.2.2.1 r.2.2.2.1 r.2.2.2.2.1 r.2.2.2.2.2.1 r.2.2.2.2.2.2.1 r.2.2.2.2.2.2.2.1 r.2.2.2.2.2.2.2.2.1 r.2.2.2.2.2.2.2.2.2.1 r.2.2.2.2.2.2.2.2.2.2 >>= fun q => k2 r q

set_option maxRecDepth 65536 in
theorem progB_eq : progB (F := F) = prog1 >>= fun r => k1 r := by
  unfold progB k1 k2 k3; rw [cc0_body_eq_skeleton]; rfl
theorem k1_res (c : Dev nD) (d : Vec F S1x512 .i32) : k1 (F := F) (res1 c d) = prog2 c d >>= fun q => k2 (res1 c d) q := rfl
theorem k2_res (c : Dev nD) (d : Vec F S1x512 .i32) (x : Vec F S512x256 .bf16) :
    k2 (F := F) (res1 c d) (res2 c d x) = prog3 c (cnt d) >>= fun t => k3 (res1 c d) (res2 c d x) t := rfl
theorem k3_res (c : Dev nD) (d : Vec F S1x512 .i32) (x : Vec F S512x256 .bf16) :
    k3 (F := F) (res1 c d) (res2 c d x) 384#32 = prog4 c (cnt d) (sortedA d x) (k0_pay8 (topBit c) (k0_pay4 (F := F) d)) >>= fun u => doneP 3 u (.ret ⟨⟩) := rfl

end Cert.KernelIdeal.Talk

end
-- ==== Proof.IdealBody.lean ====
module

public import proofs.«01_k».proof.Proof.IdealParts

/-! # The parts of the kernel body

What each part of the body takes and gives back. -/

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv mayWait_of mem_L')
open Cert.KernelIdeal Cert.KernelIdeal.Gen

variable {F : FTy → Type} [FloatOps F]

local notation "𝕄" => MT nD τ sig ℕ (Elt F) ℕ UU ℕ

theorem zero2 : (![0, 0] : Fin 2 → ℕ) = fun _ => 0 := by decide

/-! Whole loads read the contents, whole stores replace them. -/

theorem rd_x (f : S512x256.Idx → Elt F .bf16) : (Memref.whole cc0_stg0_0 : Memref sig .tc .vmem S512x256 .bf16).view.readAt (Elt F) rectX.toLoadRect f = f :=
  Memref.readAt_unit_zero (Elt F) cc0_stg0_0 zero2 inb_S512x256_S512x256_0_0 f
theorem rd_d (f : S1x512.Idx → Elt F .i32) : (Memref.whole cc0_stg1_0 : Memref sig .tc .vmem S1x512 .i32).view.readAt (Elt F) rectD.toLoadRect f = f :=
  Memref.readAt_unit_zero (Elt F) cc0_stg1_0 zero2 inb_S1x512_S1x512_0_0 f
theorem rd_c (f : S512x256.Idx → Elt F .bf16) : (Memref.whole cc0_scratch1 : Memref sig .tc .vmem S512x256 .bf16).view.readAt (Elt F) rectX.toLoadRect f = f :=
  Memref.readAt_unit_zero (Elt F) cc0_scratch1 zero2 inb_S512x256_S512x256_0_0 f
theorem wr_s (f w : S512x256.Idx → Elt F .bf16) : ((Memref.whole cc0_scratch0 : Memref sig .tc .vmem S512x256 .bf16).access rectX).write (Elt F) f w Finset.univ = w :=
  Memref.write_access_unit_zero_univ (Elt F) cc0_scratch0 zero2 inb_S512x256_S512x256_0_0 f w
theorem wr_r (f w : S512x256.Idx → Elt F .bf16) : ((Memref.whole cc0_stg2_0 : Memref sig .tc .vmem S512x256 .bf16).access rectX).write (Elt F) f w Finset.univ = w :=
  Memref.write_access_unit_zero_univ (Elt F) cc0_stg2_0 zero2 inb_S512x256_S512x256_0_0 f w

/-- One resource for every window. -/
abbrev four (Φ : Fin 4 → sProp 𝕄) : sProp 𝕄 := iprop(Φ 0 ∗ Φ 1 ∗ Φ 2 ∗ Φ 3)

theorem bigSep_four (Φ : Fin 4 → sProp 𝕄) : bigSep Finset.univ Φ = four Φ := by
  rw [show (Finset.univ : Finset (Fin 4)) = {0, 1, 2, 3} from by decide, bigSep_insert (by decide), bigSep_insert (by decide), bigSep_insert (by decide), bigSep_singleton]; rfl

section Body

variable (S : Dev nD → Fin 4 → Bool) (stg : Dev nD → S512x256.Idx → Elt F .bf16)

abbrev ptX (c : Dev nD) (x : S512x256.Idx → Elt F .bf16) : sProp 𝕄 := iprop((c : Thread nD τ).loc cc0_stg0_0 ↦{fullShare} (x : Buf (Elt F) ((c : Thread nD τ).loc cc0_stg0_0)))
abbrev ptD (c : Dev nD) (d : S1x512.Idx → Elt F .i32) : sProp 𝕄 := iprop((c : Thread nD τ).loc cc0_stg1_0 ↦{fullShare} (d : Buf (Elt F) ((c : Thread nD τ).loc cc0_stg1_0)))
abbrev ptR (c : Dev nD) (o : S512x256.Idx → Elt F .bf16) : sProp 𝕄 := iprop((c : Thread nD τ).loc cc0_stg2_0 ↦{fullShare} (o : Buf (Elt F) ((c : Thread nD τ).loc cc0_stg2_0)))
abbrev ptS (c : Dev nD) (o : S512x256.Idx → Elt F .bf16) : sProp 𝕄 := iprop((c : Thread nD τ).loc cc0_scratch0 ↦{fullShare} (o : Buf (Elt F) ((c : Thread nD τ).loc cc0_scratch0)))
abbrev ptC (c : Dev nD) (o : S512x256.Idx → Elt F .bf16) : sProp 𝕄 := iprop((c : Thread nD τ).loc cc0_scratch1 ↦{fullShare} (o : Buf (Elt F) ((c : Thread nD τ).loc cc0_scratch1)))

/-- The send buffer is its four windows. -/
theorem stg_four (c : Dev nD) (f : S512x256.Idx → Elt F .bf16) :
    ptS c f
      = four fun k => iprop((c : Thread nD τ).loc cc0_scratch0 ↦[win k]{fullShare} (f : Buf (Elt F) ((c : Thread nD τ).loc cc0_scratch0))) := by
  rw [← bigSep_four]
  have h := pointsTo_biUnion (ℓ := (c : Thread nD τ).loc cc0_scratch0) (q := fullShare) (f := (f : Buf (Elt F) ((c : Thread nD τ).loc cc0_scratch0))) (Ix := ℕ) (Name := ℕ) (U := UU) (Lvl := ℕ) Finset.univ win win_disjoint
  rw [win_cover] at h
  exact h
/-- The receive buffer is its four windows. -/
theorem com_four (c : Dev nD) (f : S512x256.Idx → Elt F .bf16) :
    ptC c f
      = four fun k => comPt c k f := by
  rw [← bigSep_four]
  have h := pointsTo_biUnion (ℓ := (c : Thread nD τ).loc cc0_scratch1) (q := fullShare) (f := (f : Buf (Elt F) ((c : Thread nD τ).loc cc0_scratch1))) (Ix := ℕ) (Name := ℕ) (U := UU) (Lvl := ℕ) Finset.univ win win_disjoint
  rw [win_cover] at h
  exact h

/-- One of four. -/
def pick {α : Type} (a0 a1 a2 a3 : α) : Fin 4 → α | 0 => a0 | 1 => a1 | 2 => a2 | 3 => a3
theorem all_four {P : Fin 4 → Prop} (h0 : P 0) (h1 : P 1) (h2 : P 2) (h3 : P 3) : ∀ k, P k | 0 => h0 | 1 => h1 | 2 => h2 | 3 => h3

/-- The four receive windows are the receive buffer at contents that agree with the partner's rows where it sends them. -/
theorem com_join (c : Dev nD) : four (got S stg c) ⊢
    (iprop(∃ g : S512x256.Idx → Elt F .bf16, ⌜∀ k, S (pr c) k = true → ∀ i ∈ win k, g i = stg (pr c) i⌝
      ∗ (c : Thread nD τ).loc cc0_scratch1 ↦{fullShare} (g : Buf (Elt F) ((c : Thread nD τ).loc cc0_scratch1))) : sProp 𝕄) := by
  unfold got
  iintro ⟨⟨%g0, %h0, H0⟩, ⟨%g1, %h1, H1⟩, ⟨%g2, %h2, H2⟩, ⟨%g3, %h3, H3⟩⟩
  have hp : ∀ k, S (pr c) k = true → ∀ i ∈ win k, pick g0 g1 g2 g3 k i = stg (pr c) i := all_four h0 h1 h2 h3
  have hj : four (fun k => comPt c k (pick g0 g1 g2 g3 k)) ⊢ (iprop(∃ g : S512x256.Idx → Elt F .bf16, ⌜∀ k ∈ (Finset.univ : Finset (Fin 4)), ∀ i ∈ win k, g i = pick g0 g1 g2 g3 k i⌝
      ∗ (c : Thread nD τ).loc cc0_scratch1 ↦[Finset.univ.biUnion win]{fullShare} (g : Buf (Elt F) ((c : Thread nD τ).loc cc0_scratch1))) : sProp 𝕄) :=
    (Entails.of_eq (bigSep_four (F := F) (fun k => comPt c k (pick g0 g1 g2 g3 k))).symm).trans
      (pointsTo_biUnion_join (ℓ := (c : Thread nD τ).loc cc0_scratch1) (q := fullShare) Finset.univ win (pick g0 g1 g2 g3) g0 win_disjoint)
  ihave H := hj $$ [H0 H1 H2 H3]
  · isplitl [H0]; · iexact H0
    isplitl [H1]; · iexact H1
    isplitl [H2]; · iexact H2
    iexact H3
  icases H with ⟨%g, %hg, H⟩
  iexists g
  isplitr
  · ipureintro
    intro k hk i hi
    rw [hg k (Finset.mem_univ k) i hi]
    exact hp k hk i hi
  rw [win_cover]; iexact H

/-! ## Lending the receive windows -/

/-- The credit a device starts with for window `k`: what the partner will send. -/
def fore (c : Dev nD) (k : Fin 4) : sProp 𝕄 := if S (pr c) k = true then cred (tallyAt (recvC c k) 2 N) else iprop(emp)

theorem lend_step (c : Dev nD) (k : Fin 4) (f : S512x256.Idx → Elt F .bf16) :
    iprop(comPt c k f ∗ reached ER (recvC c k) 0 ∗ fore S c k) ⊢ (iprop(lend S (pr c) k ∗ await S c k) : sProp 𝕄) := by
  unfold lend await fore
  by_cases h : S (pr c) k = true
  · rw [if_pos h, if_pos h, if_pos h, pr_pr]
    iintro ⟨Hf, Hr, Hc⟩
    isplitr [Hc]
    · isplitl [Hf]; · iexists f; iexact Hf
      iexact Hr
    iexact Hc
  · rw [if_neg h, if_neg h, if_neg h]
    iintro ⟨Hf, -, -⟩
    isplitr; · iempintro
    iexists f; iexact Hf

/-! ## What is owed -/

/-- What the device owes when it enters: the windows it will send. -/
def dueAll (c : Dev nD) : CellTallies nD τ sig ℕ := 0 + due S c 3 + due S c 2 + due S c 1 + due S c 0
/-- With the barrier signal. -/
def O₀ (c : Dev nD) : CellTallies nD τ sig ℕ := dueAll S c + tallyAt (barC (pr c)) 1 1

theorem due_pos {c : Dev nD} {k : Fin 4} {g : GSem nD τ sig} {i : ℕ} (h : 0 < due S c k g i) : g.1.2 = .tc ∧ i = 2 := by
  unfold due at h
  split at h
  · obtain ⟨rfl, rfl⟩ := Pipeline.tallyAt_pos h; exact ⟨rfl, rfl⟩
  · exact absurd h (Nat.lt_irrefl 0)

theorem dueAll_pos {c : Dev nD} {g : GSem nD τ sig} {i : ℕ} (h : 0 < dueAll S c g i) : g.1.2 = .tc ∧ i = 2 := by
  unfold dueAll at h
  rw [Pi.add_apply, Finsupp.add_apply] at h
  rcases Nat.add_pos_iff_pos_or_pos.mp h with h | h
  · rw [Pi.add_apply, Finsupp.add_apply] at h
    rcases Nat.add_pos_iff_pos_or_pos.mp h with h | h
    · rw [Pi.add_apply, Finsupp.add_apply] at h
      rcases Nat.add_pos_iff_pos_or_pos.mp h with h | h
      · rw [Pi.add_apply, Finsupp.add_apply] at h
        rcases Nat.add_pos_iff_pos_or_pos.mp h with h | h
        · exact absurd h (Nat.lt_irrefl 0)
        · exact due_pos S h
      · exact due_pos S h
    · exact due_pos S h
  · exact due_pos S h

/-! ## The parts -/

theorem part1_run (κ : ℕ) (c : Dev nD) (d : S1x512.Idx → Elt F .i32) (f : S512x256.Idx → Elt F .bf16) (Kt : PT1 (F := F) → sProp 𝕄) :
    iprop(cellInv ER (Rd S stg) κ (barC (pr c)) ∗ dutyTok ER (barC (pr c)) 0 () ∗ reached ER (barC (pr c)) 0
        ∗ ptC c f ∗ four (fun k => reached ER (recvC c k) 0) ∗ four (fore S c)
        ∗ ptD c d ∗ ow c (O₀ S c)
        ∗ (iprop(four (await S c) ∗ ptD c d ∗ ow c (dueAll S c)) -∗ Kt (res1 c d)))
      ⊢ wp frame (wpE (defs₀ (F := F)) 𝒱₀ c none) Set.univ prog1 Kt := by
  rw [prog1_eq, com_four]
  simp only [wp_deviceId, dev1_eq]
  iintro ⟨#HI, Ht, #Hr, ⟨Hf0, Hf1, Hf2, Hf3⟩, ⟨#Hr0, #Hr1, #Hr2, #Hr3⟩, ⟨Hc0, Hc1, Hc2, Hc3⟩, Hd, ⟨%W, HO⟩, Hk⟩
  ihave H0 := (lend_step S c 0 f) $$ [Hf0 Hc0]
  · isplitl [Hf0]; · iexact Hf0
    isplitr; · iexact Hr0
    iexact Hc0
  ihave H1 := (lend_step S c 1 f) $$ [Hf1 Hc1]
  · isplitl [Hf1]; · iexact Hf1
    isplitr; · iexact Hr1
    iexact Hc1
  ihave H2 := (lend_step S c 2 f) $$ [Hf2 Hc2]
  · isplitl [Hf2]; · iexact Hf2
    isplitr; · iexact Hr2
    iexact Hc2
  ihave H3 := (lend_step S c 3 f) $$ [Hf3 Hc3]
  · isplitl [Hf3]; · iexact Hf3
    isplitr; · iexact Hr3
    iexact Hc3
  icases H0 with ⟨Hl0, Ha0⟩
  icases H1 with ⟨Hl1, Ha1⟩
  icases H2 with ⟨Hl2, Ha2⟩
  icases H3 with ⟨Hl3, Ha3⟩
  iapply (Rounds.wp_signal 𝒱₀ ER (Rd S stg) (c : Thread nD τ) none (dst := (pr c : Thread nD τ)) (sem := barS) (r := 0) (d := ()) (κ := κ)
      (by rw [duties_used S stg (used_bar S (pr c))]; exact Finset.mem_singleton_self _) (amount_bar S stg (pr c)) 1 (dueAll S c) rfl) $$ [Ht Hl0 Hl1 Hl2 Hl3 HO]
  · isplitr; · iexact HI
    isplitl [HO]; · iexact HO
    isplitl [Ht]; · iexact Ht
    isplitl [Hl0 Hl1 Hl2 Hl3]
    · iapply (Entails.of_eq (show (Rd S stg).payload ((pr c : Thread nD τ), SemLoc.reg barS) 0 () = _ from pay_bar S stg (pr c)).symm)
      isplitl [Hl0]; · iexact Hl0
      isplitl [Hl1]; · iexact Hl1
      isplitl [Hl2] <;> iassumption
    iexact Hr
  iintro HO
  iapply (wp_load 𝒱₀ (c : Thread nD τ) none Set.univ (m := Memref.whole cc0_stg1_0) (S := Finset.univ) (Finset.subset_univ _)) $$ Hd
  iintro Hd
  rw [rd_d, wp_ret]
  imodintro
  iapply Hk
  isplitl [Ha0 Ha1 Ha2 Ha3]
  · isplitl [Ha0]; · iexact Ha0
    isplitl [Ha1]; · iexact Ha1
    isplitl [Ha2] <;> iassumption
  isplitl [Hd]; · iexact Hd
  iexists W; iexact HO

/-- What the send of a window takes besides the window. -/
def lane (c : Dev nD) (k : Fin 4) : sProp 𝕄 :=
  iprop(dutyTok ER (sendC c k) 0 () ∗ reached ER (sendC c k) 0 ∗ dutyTok ER (recvC (pr c) k) 0 ())

set_option maxHeartbeats 4000000 in
theorem part2_run (κ : GSem nD τ sig → ℕ) (c : Dev nD) (d : S1x512.Idx → Elt F .i32) (x f : S512x256.Idx → Elt F .bf16)
    (hstg : stg c = sortedB d x) (hS : ∀ k, isSet (sendV (topBit c) (cnt (F := F) d) k) ↔ S c k = true) (Kt : PT2 (F := F) → sProp 𝕄) :
    iprop(Fm.cellInvs ER (Rd S stg) κ ∗ levAts (L 3) lv ∗ cred (tallyAt (barC c) 1 1) ∗ atPos ER (barC c) 0 ∅ 0
        ∗ ptX c x ∗ ptS c f ∗ lane c 0 ∗ ow c (dueAll S c)
        ∗ (iprop(atPos ER (barC c) 1 ∅ 0 ∗ ptX c x ∗ sent S stg c 0
            ∗ (stgPt stg c 1 ∗ stgPt stg c 2 ∗ stgPt stg c 3) ∗ (lend S c 1 ∗ lend S c 2 ∗ lend S c 3)
            ∗ ow c (0 + due S c 3 + due S c 2 + due S c 1)) -∗ Kt (res2 c d x)))
      ⊢ wp frame (wpE (defs₀ (F := F)) 𝒱₀ c none) Set.univ (prog2 c d) Kt := by
  rw [prog2_eq]
  unfold lane
  iintro ⟨#HI, #Hlev, Hc, Hat, Hx, Hf, ⟨HtS, #HrS, HtN⟩, ⟨%W, HO⟩, Hk⟩
  iapply (wp_load 𝒱₀ (c : Thread nD τ) none Set.univ (m := Memref.whole cc0_stg0_0) (S := Finset.univ) (Finset.subset_univ _)) $$ Hx
  iintro Hx
  rw [rd_x]
  iapply (wp_load 𝒱₀ (c : Thread nD τ) none Set.univ (m := Memref.whole cc0_scratch0) (S := Finset.univ) (Finset.subset_univ _)) $$ Hf
  iintro Hf
  iapply (wp_store 𝒱₀ (c : Thread nD τ) none Set.univ (m := Memref.whole cc0_scratch0) (r := rectX) (S := Finset.univ) (Finset.subset_univ _)) $$ Hf
  iintro Hf
  rw [wr_s, ← hstg]
  ihave Hf' := (Entails.of_eq (stg_four c (stg c))) $$ Hf
  icases Hf' with ⟨Hf0, Hf1, Hf2, Hf3⟩
  ihave #HIb := (Fm.cellInvs_bar ER (Rd S stg) κ c) $$ HI
  ihave #HIs := (Fm.cellInvs_dorm ER (Rd S stg) κ c (send_dorm 0)) $$ HI
  ihave #HIr := (Fm.cellInvs_dorm ER (Rd S stg) κ (pr c) (recv_dorm 0)) $$ HI
  iapply (Rounds.wp_wait_rest_token 𝒱₀ ER (Rd S stg) (c : Thread nD τ) none (κ := κ (barC c))
      (wpE_semWait_eq 𝒱₀ (c : Thread nD τ) none Set.univ) (Set.mem_univ _) 1 (O := dueAll S c) (W := W) (R := 0) (m := 0) (T := ∅)
      ((Nat.zero_add 1).trans ((expect_used S stg (used_bar S c)).trans (amount_bar S stg c)).symm)) $$ [Hc HO Hat]
  · isplitr; · iexact HIb
    isplitl [Hc]; · iexact Hc
    isplitl [HO]; · iexact HO
    isplitr
    · iapply (mayWait_of (N := 3) (i := 1) (by omega) c (.reg barS) (dueAll S c) fun g k h => by
        obtain ⟨h1, rfl⟩ := dueAll_pos S h
        exact ⟨mem_L' h1 (by omega), by omega⟩)
      iexact Hlev
    iexact Hat
  iintro ⟨HO, Hat, -, Hpay⟩
  ihave Hp := (Entails.of_eq ((rest_used S stg (used_bar S c)).trans (pay_bar S stg c))) $$ Hpay
  icases Hp with ⟨Hl0, Hl1, Hl2, Hl3⟩
  iapply (send_step S stg (κ (sendC c 0)) (κ (recvC (pr c) 0)) 0 c _ (hS 0) (0 + due S c 3 + due S c 2 + due S c 1) _ Kt)
  isplitr; · iexact HIs
  isplitr; · iexact HIr
  isplitl [Hf0]; · iexact Hf0
  isplitl [HtS]; · iexact HtS
  isplitr; · iexact HrS
  isplitl [HtN]; · iexact HtN
  isplitl [Hl0]; · iexact Hl0
  isplitl [HO]; · iexists _; iexact HO
  iintro ⟨Hsent, HO⟩
  rw [wp_ret]
  imodintro
  iapply Hk
  isplitl [Hat]; · iexact Hat
  isplitl [Hx]; · iexact Hx
  isplitl [Hsent]; · iexact Hsent
  isplitl [Hf1 Hf2 Hf3]
  · isplitl [Hf1]; · iexact Hf1
    isplitl [Hf2] <;> iassumption
  isplitl [Hl1 Hl2 Hl3]
  · isplitl [Hl1]; · iexact Hl1
    isplitl [Hl2] <;> iassumption
  iexact HO

/-- One send, the cells' invariants taken from the family. -/
theorem send_one {α : Type} (κ : GSem nD τ sig → ℕ) (k : Fin 4) (c : Dev nD) (v : BitVec 32) (hv : isSet v ↔ S c k = true)
    (O : CellTallies nD τ sig ℕ) (K : Prog (TpuEff nD τ sig (Elt F) Λ₀ .tc) α) (Kt : α → sProp 𝕄) :
    iprop(Fm.cellInvs ER (Rd S stg) κ ∗ stgPt stg c k ∗ lane c k ∗ lend S c k ∗ ow c (O + due S c k)
        ∗ (iprop(sent S stg c k ∗ ow c O) -∗ wp frame (wpE (defs₀ (F := F)) 𝒱₀ c none) Set.univ K Kt))
      ⊢ wp frame (wpE (defs₀ (F := F)) 𝒱₀ c none) Set.univ (sendP (F := F) k c v K) Kt := by
  unfold lane
  iintro ⟨#HI, Hf, ⟨HtS, #HrS, HtN⟩, Hl, HO, Hk⟩
  ihave #HIs := (Fm.cellInvs_dorm ER (Rd S stg) κ c (send_dorm k)) $$ HI
  ihave #HIr := (Fm.cellInvs_dorm ER (Rd S stg) κ (pr c) (recv_dorm k)) $$ HI
  iapply (send_step S stg (κ (sendC c k)) (κ (recvC (pr c) k)) k c v hv O K Kt)
  isplitr; · iexact HIs
  isplitr; · iexact HIr
  isplitl [Hf]; · iexact Hf
  isplitl [HtS]; · iexact HtS
  isplitr; · iexact HrS
  isplitl [HtN]; · iexact HtN
  isplitl [Hl]; · iexact Hl
  isplitl [HO]; · iexact HO
  iexact Hk

/-- One wait for an arrival, likewise. -/
theorem recv_one {α : Type} (κ : GSem nD τ sig → ℕ) (k : Fin 4) (c : Dev nD) (v : BitVec 32) (hv : isSet v ↔ S (pr c) k = true)
    (K : Prog (TpuEff nD τ sig (Elt F) Λ₀ .tc) α) (Kt : α → sProp 𝕄) :
    iprop(Fm.cellInvs ER (Rd S stg) κ ∗ atPos ER (recvC c k) 0 ∅ 0 ∗ await S c k ∗ ow c 0
        ∗ (iprop(atPos ER (recvC c k) (rds (S (pr c) k)) ∅ 0 ∗ got S stg c k ∗ ow c 0) -∗ wp frame (wpE (defs₀ (F := F)) 𝒱₀ c none) Set.univ K Kt))
      ⊢ wp frame (wpE (defs₀ (F := F)) 𝒱₀ c none) Set.univ (recvP (F := F) k v K) Kt := by
  iintro ⟨#HI, Hat, Ha, HO, Hk⟩
  ihave #HIr := (Fm.cellInvs_dorm ER (Rd S stg) κ c (recv_dorm k)) $$ HI
  iapply (recv_step S stg (κ (recvC c k)) k c v hv K Kt)
  isplitr; · iexact HIr
  isplitl [Hat]; · iexact Hat
  isplitl [Ha]; · iexact Ha
  isplitl [HO]; · iexact HO
  iexact Hk

/-- One wait for a completed send, likewise. -/
theorem done_one {α : Type} (κ : GSem nD τ sig → ℕ) (k : Fin 4) (c : Dev nD) (v : BitVec 32) (hv : isSet v ↔ S c k = true)
    (K : Prog (TpuEff nD τ sig (Elt F) Λ₀ .tc) α) (Kt : α → sProp 𝕄) :
    iprop(Fm.cellInvs ER (Rd S stg) κ ∗ atPos ER (sendC c k) 0 ∅ 0 ∗ sent S stg c k ∗ ow c 0
        ∗ (iprop(atPos ER (sendC c k) (rds (S c k)) ∅ 0 ∗ stgPt stg c k ∗ ow c 0) -∗ wp frame (wpE (defs₀ (F := F)) 𝒱₀ c none) Set.univ K Kt))
      ⊢ wp frame (wpE (defs₀ (F := F)) 𝒱₀ c none) Set.univ (doneP (F := F) k v K) Kt := by
  iintro ⟨#HI, Hat, Ha, HO, Hk⟩
  ihave #HIs := (Fm.cellInvs_dorm ER (Rd S stg) κ c (send_dorm k)) $$ HI
  iapply (done_step S stg (κ (sendC c k)) k c v hv K Kt)
  isplitr; · iexact HIs
  isplitl [Hat]; · iexact Hat
  isplitl [Ha]; · iexact Ha
  isplitl [HO]; · iexact HO
  iexact Hk

set_option maxHeartbeats 4000000 in
theorem part3_run (κ : GSem nD τ sig → ℕ) (c : Dev nD) (n : BitVec 32)
    (hS : ∀ k, isSet (sendV (topBit c) n k) ↔ S c k = true)
    (hR : ∀ k, isSet (recvV (topBit c) (Scalar.subi 512#32 n) k) ↔ S (pr c) k = true) (Kt : BitVec 32 → sProp 𝕄) :
    iprop(Fm.cellInvs ER (Rd S stg) κ ∗ (stgPt stg c 1 ∗ stgPt stg c 2 ∗ stgPt stg c 3) ∗ (lend S c 1 ∗ lend S c 2 ∗ lend S c 3)
        ∗ (lane c 1 ∗ lane c 2 ∗ lane c 3) ∗ (await S c 0 ∗ await S c 1 ∗ await S c 2)
        ∗ (atPos ER (recvC c 0) 0 ∅ 0 ∗ atPos ER (recvC c 1) 0 ∅ 0 ∗ atPos ER (recvC c 2) 0 ∅ 0)
        ∗ ow c (0 + due S c 3 + due S c 2 + due S c 1)
        ∗ (iprop((sent S stg c 1 ∗ sent S stg c 2 ∗ sent S stg c 3) ∗ (got S stg c 0 ∗ got S stg c 1 ∗ got S stg c 2)
            ∗ (atPos ER (recvC c 0) (rds (S (pr c) 0)) ∅ 0 ∗ atPos ER (recvC c 1) (rds (S (pr c) 1)) ∅ 0 ∗ atPos ER (recvC c 2) (rds (S (pr c) 2)) ∅ 0)
            ∗ ow c 0) -∗ Kt 384#32))
      ⊢ wp frame (wpE (defs₀ (F := F)) 𝒱₀ c none) Set.univ (prog3 c n) Kt := by
  rw [prog3_eq]
  iintro ⟨#HI, ⟨Hf1, Hf2, Hf3⟩, ⟨Hl1, Hl2, Hl3⟩, ⟨Ht1, Ht2, Ht3⟩, ⟨Ha0, Ha1, Ha2⟩, ⟨Hp0, Hp1, Hp2⟩, HO, Hk⟩
  iapply (send_one S stg κ 1 c _ (hS 1) (0 + due S c 3 + due S c 2) _ Kt)
  isplitr; · iexact HI
  isplitl [Hf1]; · iexact Hf1
  isplitl [Ht1]; · iexact Ht1
  isplitl [Hl1]; · iexact Hl1
  isplitl [HO]; · iexact HO
  iintro ⟨Hs1, HO⟩
  iapply (send_one S stg κ 2 c _ (hS 2) (0 + due S c 3) _ Kt)
  isplitr; · iexact HI
  isplitl [Hf2]; · iexact Hf2
  isplitl [Ht2]; · iexact Ht2
  isplitl [Hl2]; · iexact Hl2
  isplitl [HO]; · iexact HO
  iintro ⟨Hs2, HO⟩
  iapply (send_one S stg κ 3 c _ (hS 3) 0 _ Kt)
  isplitr; · iexact HI
  isplitl [Hf3]; · iexact Hf3
  isplitl [Ht3]; · iexact Ht3
  isplitl [Hl3]; · iexact Hl3
  isplitl [HO]; · iexact HO
  iintro ⟨Hs3, HO⟩
  iapply (recv_one S stg κ 0 c _ (hR 0) _ Kt)
  isplitr; · iexact HI
  isplitl [Hp0]; · iexact Hp0
  isplitl [Ha0]; · iexact Ha0
  isplitl [HO]; · iexact HO
  iintro ⟨Hp0, Hg0, HO⟩
  iapply (recv_one S stg κ 1 c _ (hR 1) _ Kt)
  isplitr; · iexact HI
  isplitl [Hp1]; · iexact Hp1
  isplitl [Ha1]; · iexact Ha1
  isplitl [HO]; · iexact HO
  iintro ⟨Hp1, Hg1, HO⟩
  iapply (recv_one S stg κ 2 c _ (hR 2) _ Kt)
  isplitr; · iexact HI
  isplitl [Hp2]; · iexact Hp2
  isplitl [Ha2]; · iexact Ha2
  isplitl [HO]; · iexact HO
  iintro ⟨Hp2, Hg2, HO⟩
  rw [wp_ret]
  imodintro
  iapply Hk
  isplitl [Hs1 Hs2 Hs3]
  · isplitl [Hs1]; · iexact Hs1
    isplitl [Hs2] <;> iassumption
  isplitl [Hg0 Hg1 Hg2]
  · isplitl [Hg0]; · iexact Hg0
    isplitl [Hg1] <;> iassumption
  isplitl [Hp0 Hp1 Hp2]
  · isplitl [Hp0]; · iexact Hp0
    isplitl [Hp1] <;> iassumption
  iexact HO

set_option maxHeartbeats 4000000 in
theorem part4_run (κ : GSem nD τ sig → ℕ) (c : Dev nD) (n : BitVec 32) (a : FVec F S512x256 .bf16) (e : IVec S512x1 1) (f o : S512x256.Idx → Elt F .bf16)
    (hS : ∀ k, isSet (sendV (topBit c) n k) ↔ S c k = true)
    (hR : ∀ k, isSet (recvV (topBit c) (Scalar.subi 512#32 n) k) ↔ S (pr c) k = true)
    (ho : ∀ g : S512x256.Idx → Elt F .bf16, (∀ k, S (pr c) k = true → ∀ i ∈ win k, g i = stg (pr c) i) → k0_pay9 n a e g = o) (Kt : BitVec 32 → sProp 𝕄) :
    iprop(Fm.cellInvs ER (Rd S stg) κ ∗ (got S stg c 0 ∗ got S stg c 1 ∗ got S stg c 2) ∗ await S c 3 ∗ atPos ER (recvC c 3) 0 ∅ 0
        ∗ ptR c f ∗ (sent S stg c 0 ∗ sent S stg c 1 ∗ sent S stg c 2)
        ∗ (atPos ER (sendC c 0) 0 ∅ 0 ∗ atPos ER (sendC c 1) 0 ∅ 0 ∗ atPos ER (sendC c 2) 0 ∅ 0)
        ∗ ow c 0
        ∗ (iprop((∃ g, ptC c g) ∗ atPos ER (recvC c 3) (rds (S (pr c) 3)) ∅ 0 ∗ ptR c o ∗ (stgPt stg c 0 ∗ stgPt stg c 1 ∗ stgPt stg c 2)
            ∗ (atPos ER (sendC c 0) (rds (S c 0)) ∅ 0 ∗ atPos ER (sendC c 1) (rds (S c 1)) ∅ 0 ∗ atPos ER (sendC c 2) (rds (S c 2)) ∅ 0)
            ∗ ow c 0) -∗ Kt (sendV (topBit c) n 3)))
      ⊢ wp frame (wpE (defs₀ (F := F)) 𝒱₀ c none) Set.univ (prog4 c n a e) Kt := by
  rw [prog4_eq]
  iintro ⟨#HI, ⟨Hg0, Hg1, Hg2⟩, Ha, Hp, Hf, ⟨Hs0, Hs1, Hs2⟩, ⟨Hp0, Hp1, Hp2⟩, HO, Hk⟩
  iapply (recv_one S stg κ 3 c _ (hR 3) _ Kt)
  isplitr; · iexact HI
  isplitl [Hp]; · iexact Hp
  isplitl [Ha]; · iexact Ha
  isplitl [HO]; · iexact HO
  iintro ⟨Hp, Hg3, HO⟩
  ihave Hg := (com_join S stg c) $$ [Hg0 Hg1 Hg2 Hg3]
  · isplitl [Hg0]; · iexact Hg0
    isplitl [Hg1]; · iexact Hg1
    isplitl [Hg2] <;> iassumption
  icases Hg with ⟨%g, %hg, Hg⟩
  iapply (wp_load 𝒱₀ (c : Thread nD τ) none Set.univ (m := Memref.whole cc0_scratch1) (S := Finset.univ) (Finset.subset_univ _)) $$ Hg
  iintro Hg
  rw [rd_c]
  iapply (wp_load 𝒱₀ (c : Thread nD τ) none Set.univ (m := Memref.whole cc0_stg2_0) (S := Finset.univ) (Finset.subset_univ _)) $$ Hf
  iintro Hf
  iapply (wp_store 𝒱₀ (c : Thread nD τ) none Set.univ (m := Memref.whole cc0_stg2_0) (r := rectX) (S := Finset.univ) (Finset.subset_univ _)) $$ Hf
  iintro Hf
  rw [wr_r, ho g hg]
  iapply (done_one S stg κ 0 c _ (hS 0) _ Kt)
  isplitr; · iexact HI
  isplitl [Hp0]; · iexact Hp0
  isplitl [Hs0]; · iexact Hs0
  isplitl [HO]; · iexact HO
  iintro ⟨Hp0, Hs0, HO⟩
  iapply (done_one S stg κ 1 c _ (hS 1) _ Kt)
  isplitr; · iexact HI
  isplitl [Hp1]; · iexact Hp1
  isplitl [Hs1]; · iexact Hs1
  isplitl [HO]; · iexact HO
  iintro ⟨Hp1, Hs1, HO⟩
  iapply (done_one S stg κ 2 c _ (hS 2) _ Kt)
  isplitr; · iexact HI
  isplitl [Hp2]; · iexact Hp2
  isplitl [Hs2]; · iexact Hs2
  isplitl [HO]; · iexact HO
  iintro ⟨Hp2, Hs2, HO⟩
  rw [wp_ret]
  imodintro
  iapply Hk
  isplitl [Hg]; · iexists g; iexact Hg
  isplitl [Hp]; · iexact Hp
  isplitl [Hf]; · iexact Hf
  isplitl [Hs0 Hs1 Hs2]
  · isplitl [Hs0]; · iexact Hs0
    isplitl [Hs1] <;> iassumption
  isplitl [Hp0 Hp1 Hp2]
  · isplitl [Hp0]; · iexact Hp0
    isplitl [Hp1] <;> iassumption
  iexact HO

end Body

end Cert.KernelIdeal.Talk

end
-- ==== Proof.IdealWhole.lean ====
module

public import proofs.«01_k».proof.Proof.IdealBody

/-! # The body whole

The parts one after another: from the bucket numbers and the rows in the staging buffers to the merged rows in the
result's staging buffer, every cell closed. -/

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv mayWait_of mem_L')
open Cert.KernelIdeal Cert.KernelIdeal.Gen

variable {F : FTy → Type} [FloatOps F]

local notation "𝕄" => MT nD τ sig ℕ (Elt F) ℕ UU ℕ

section Whole

variable (S : Dev nD → Fin 4 → Bool) (stg : Dev nD → S512x256.Idx → Elt F .bf16)

/-! ## Closing the cells -/

theorem close_bar (κ : GSem nD τ sig → ℕ) (c : Dev nD) :
    iprop(Fm.cellInvs ER (Rd S stg) κ ∗ atPos ER (barC c) 1 ∅ 0) ⊢ (|={Set.univ}=> semVal (barC c) 0 : sProp 𝕄) := by
  iintro ⟨#HI, Hat⟩
  ihave #HIb := (Fm.cellInvs_bar ER (Rd S stg) κ c) $$ HI
  iapply (Rounds.cell_close ER (Rd S stg) (g := barC c) (R := 1) (Set.mem_univ (κ (barC c))) id fun r hr => duties_later S stg (barC c) r hr)
  isplitr; · iexact HIb
  iexact Hat

theorem duties_after (b : Bool) (g : GSem nD τ sig) (h : used S g = b) (r : ℕ) (hr : rds b ≤ r) : (Rd (F := F) S stg).duties g r = ∅ := by
  cases b with
  | true => exact duties_later S stg g r hr
  | false => exact duties_unused S stg (by rw [h]; decide) r

theorem close_send (κ : GSem nD τ sig → ℕ) (c : Dev nD) (k : Fin 4) :
    iprop(Fm.cellInvs ER (Rd S stg) κ ∗ atPos ER (sendC c k) (rds (S c k)) ∅ 0) ⊢ (|={Set.univ}=> semVal (sendC c k) 0 : sProp 𝕄) := by
  iintro ⟨#HI, Hat⟩
  ihave #HIb := (Fm.cellInvs_dorm ER (Rd S stg) κ c (send_dorm k)) $$ HI
  iapply (Rounds.cell_close ER (Rd S stg) (g := sendC c k) (R := rds (S c k)) (Set.mem_univ (κ (sendC c k))) id
    fun r hr => duties_after S stg (S c k) (sendC c k) (used_send S c k) r hr)
  isplitr; · iexact HIb
  iexact Hat

theorem close_recv (κ : GSem nD τ sig → ℕ) (c : Dev nD) (k : Fin 4) :
    iprop(Fm.cellInvs ER (Rd S stg) κ ∗ atPos ER (recvC c k) (rds (S (pr c) k)) ∅ 0) ⊢ (|={Set.univ}=> semVal (recvC c k) 0 : sProp 𝕄) := by
  iintro ⟨#HI, Hat⟩
  ihave #HIb := (Fm.cellInvs_dorm ER (Rd S stg) κ c (recv_dorm k)) $$ HI
  iapply (Rounds.cell_close ER (Rd S stg) (g := recvC c k) (R := rds (S (pr c) k)) (Set.mem_univ (κ (recvC c k))) id
    fun r hr => duties_after S stg (S (pr c) k) (recvC c k) (used_recv S c k) r hr)
  isplitr; · iexact HIb
  iexact Hat

theorem close_sends (κ : GSem nD τ sig → ℕ) (c : Dev nD) :
    iprop(Fm.cellInvs ER (Rd S stg) κ ∗ four fun k => atPos ER (sendC c k) (rds (S c k)) ∅ 0) ⊢ (|={Set.univ}=> four fun k => semVal (sendC c k) 0 : sProp 𝕄) := by
  iintro ⟨#HI, H0, H1, H2, H3⟩
  imod (close_send S stg κ c 0) $$ [H0] with H0
  · isplitr; · iexact HI
    iexact H0
  imod (close_send S stg κ c 1) $$ [H1] with H1
  · isplitr; · iexact HI
    iexact H1
  imod (close_send S stg κ c 2) $$ [H2] with H2
  · isplitr; · iexact HI
    iexact H2
  imod (close_send S stg κ c 3) $$ [H3] with H3
  · isplitr; · iexact HI
    iexact H3
  imodintro
  isplitl [H0]; · iexact H0
  isplitl [H1]; · iexact H1
  isplitl [H2] <;> iassumption

theorem close_recvs (κ : GSem nD τ sig → ℕ) (c : Dev nD) :
    iprop(Fm.cellInvs ER (Rd S stg) κ ∗ four fun k => atPos ER (recvC c k) (rds (S (pr c) k)) ∅ 0) ⊢ (|={Set.univ}=> four fun k => semVal (recvC c k) 0 : sProp 𝕄) := by
  iintro ⟨#HI, H0, H1, H2, H3⟩
  imod (close_recv S stg κ c 0) $$ [H0] with H0
  · isplitr; · iexact HI
    iexact H0
  imod (close_recv S stg κ c 1) $$ [H1] with H1
  · isplitr; · iexact HI
    iexact H1
  imod (close_recv S stg κ c 2) $$ [H2] with H2
  · isplitr; · iexact HI
    iexact H2
  imod (close_recv S stg κ c 3) $$ [H3] with H3
  · isplitr; · iexact HI
    iexact H3
  imodintro
  isplitl [H0]; · iexact H0
  isplitl [H1]; · iexact H1
  isplitl [H2] <;> iassumption

/-! ## The body -/

/-- What a device enters the body with, besides the buffers and what it owes. -/
def opened (κ : GSem nD τ sig → ℕ) (c : Dev nD) : sProp 𝕄 :=
  iprop(Fm.cellInvs ER (Rd S stg) κ ∗ atPos ER (barC c) 0 ∅ 0 ∗ reached ER (barC (pr c)) 0 ∗ dutyTok ER (barC (pr c)) 0 ()
    ∗ cred (tallyAt (barC c) 1 1) ∗ levAts (L 3) lv ∗ four (fore S c) ∗ four (lane c)
    ∗ (four fun k => atPos ER (sendC c k) 0 ∅ 0) ∗ (four fun k => atPos ER (recvC c k) 0 ∅ 0) ∗ four fun k => reached ER (recvC c k) 0)

/-- What is left of it: every counter at zero. -/
def closed (c : Dev nD) : sProp 𝕄 :=
  iprop(semVal (barC c) 0 ∗ (four fun k => semVal (sendC c k) 0) ∗ four fun k => semVal (recvC c k) 0)

set_option maxHeartbeats 4000000 in
theorem body_run (κ : GSem nD τ sig → ℕ) (c : Dev nD) (d : S1x512.Idx → Elt F .i32) (x f fs fc o : S512x256.Idx → Elt F .bf16)
    (hstg : stg c = sortedB d x)
    (hS : ∀ k, isSet (sendV (topBit c) (cnt (F := F) d) k) ↔ S c k = true)
    (hR : ∀ k, isSet (recvV (topBit c) (Scalar.subi 512#32 (cnt (F := F) d)) k) ↔ S (pr c) k = true)
    (ho : ∀ g : S512x256.Idx → Elt F .bf16, (∀ k, S (pr c) k = true → ∀ i ∈ win k, g i = stg (pr c) i) → merged c d x g = o) (Kt : PUnit → sProp 𝕄) :
    iprop(opened S stg κ c ∗ ptX c x ∗ ptD c d ∗ ptR c f ∗ ptS c fs ∗ ptC c fc ∗ ow c (O₀ S c)
        ∗ (iprop(closed c ∗ ptX c x ∗ ptD c d ∗ ptR c o ∗ ptS c (stg c) ∗ (∃ g, ptC c g) ∗ ow c 0) -∗ Kt ⟨⟩))
      ⊢ wp frame (wpE (defs₀ (F := F)) 𝒱₀ c none) Set.univ progB Kt := by
  rw [progB_eq, wp_bind]
  unfold opened closed
  iintro ⟨⟨#HI, HatB, #HrB, HtB, HcB, #Hlev, Hfore, ⟨Ht0, Ht1, Ht2, Ht3⟩, ⟨Hs0, Hs1, Hs2, Hs3⟩, ⟨Hr0, Hr1, Hr2, Hr3⟩, Hrr⟩, Hx, Hd, Hf, Hfs, Hfc, HO, Hk⟩
  ihave #HIB := (Fm.cellInvs_bar ER (Rd S stg) κ (pr c)) $$ HI
  iapply (part1_run S stg (κ (barC (pr c))) c d fc fun r => wp frame (wpE (defs₀ (F := F)) 𝒱₀ c none) Set.univ (k1 r) Kt)
  isplitr; · iexact HIB
  isplitl [HtB]; · iexact HtB
  isplitr; · iexact HrB
  isplitl [Hfc]; · iexact Hfc
  isplitl [Hrr]; · iexact Hrr
  isplitl [Hfore]; · iexact Hfore
  isplitl [Hd]; · iexact Hd
  isplitl [HO]; · iexact HO
  iintro ⟨⟨Ha0, Ha1, Ha2, Ha3⟩, Hd, HO⟩
  beta_reduce
  rw [k1_res, wp_bind]
  iapply (part2_run S stg κ c d x fs hstg hS fun q => wp frame (wpE (defs₀ (F := F)) 𝒱₀ c none) Set.univ (k2 (res1 c d) q) Kt)
  isplitr; · iexact HI
  isplitr; · iexact Hlev
  isplitl [HcB]; · iexact HcB
  isplitl [HatB]; · iexact HatB
  isplitl [Hx]; · iexact Hx
  isplitl [Hfs]; · iexact Hfs
  isplitl [Ht0]; · iexact Ht0
  isplitl [HO]; · iexact HO
  iintro ⟨HatB, Hx, Hn0, Hst, Hl, HO⟩
  beta_reduce
  rw [k2_res, wp_bind]
  iapply (part3_run S stg κ c (cnt d) hS hR fun t => wp frame (wpE (defs₀ (F := F)) 𝒱₀ c none) Set.univ (k3 (res1 c d) (res2 c d x) t) Kt)
  isplitr; · iexact HI
  isplitl [Hst]; · iexact Hst
  isplitl [Hl]; · iexact Hl
  isplitl [Ht1 Ht2 Ht3]
  · isplitl [Ht1]; · iexact Ht1
    isplitl [Ht2] <;> iassumption
  isplitl [Ha0 Ha1 Ha2]
  · isplitl [Ha0]; · iexact Ha0
    isplitl [Ha1] <;> iassumption
  isplitl [Hr0 Hr1 Hr2]
  · isplitl [Hr0]; · iexact Hr0
    isplitl [Hr1] <;> iassumption
  isplitl [HO]; · iexact HO
  iintro ⟨⟨Hn1, Hn2, Hn3⟩, Hg, ⟨Hr0, Hr1, Hr2⟩, HO⟩
  beta_reduce
  rw [k3_res, wp_bind]
  iapply (part4_run S stg κ c (cnt d) (sortedA d x) (k0_pay8 (topBit c) (k0_pay4 (F := F) d)) f o hS hR ho
    fun u => wp frame (wpE (defs₀ (F := F)) 𝒱₀ c none) Set.univ (doneP 3 u (.ret ⟨⟩)) Kt)
  isplitr; · iexact HI
  isplitl [Hg]; · iexact Hg
  isplitl [Ha3]; · iexact Ha3
  isplitl [Hr3]; · iexact Hr3
  isplitl [Hf]; · iexact Hf
  isplitl [Hn0 Hn1 Hn2]
  · isplitl [Hn0]; · iexact Hn0
    isplitl [Hn1] <;> iassumption
  isplitl [Hs0 Hs1 Hs2]
  · isplitl [Hs0]; · iexact Hs0
    isplitl [Hs1] <;> iassumption
  isplitl [HO]; · iexact HO
  iintro ⟨Hg, Hr3, Hf, ⟨Hst0, Hst1, Hst2⟩, ⟨Hs0, Hs1, Hs2⟩, HO⟩
  beta_reduce
  iapply (done_one S stg κ 3 c _ (hS 3) _ Kt)
  isplitr; · iexact HI
  isplitl [Hs3]; · iexact Hs3
  isplitl [Hn3]; · iexact Hn3
  isplitl [HO]; · iexact HO
  iintro ⟨Hs3, Hst3, HO⟩
  rw [wp_ret]
  imod (close_bar S stg κ c) $$ [HatB] with Hb
  · isplitr; · iexact HI
    iexact HatB
  imod (close_sends S stg κ c) $$ [Hs0 Hs1 Hs2 Hs3] with Hs
  · isplitr; · iexact HI
    isplitl [Hs0]; · iexact Hs0
    isplitl [Hs1]; · iexact Hs1
    isplitl [Hs2] <;> iassumption
  imod (close_recvs S stg κ c) $$ [Hr0 Hr1 Hr2 Hr3] with Hr
  · isplitr; · iexact HI
    isplitl [Hr0]; · iexact Hr0
    isplitl [Hr1]; · iexact Hr1
    isplitl [Hr2] <;> iassumption
  imodintro
  iapply Hk
  isplitl [Hb Hs Hr]
  · isplitl [Hb]; · iexact Hb
    isplitl [Hs] <;> iassumption
  isplitl [Hx]; · iexact Hx
  isplitl [Hd]; · iexact Hd
  isplitl [Hf]; · iexact Hf
  isplitl [Hst0 Hst1 Hst2 Hst3]
  · iapply (Entails.of_eq (stg_four c (stg c)).symm)
    isplitl [Hst0]; · iexact Hst0
    isplitl [Hst1]; · iexact Hst1
    isplitl [Hst2] <;> iassumption
  isplitl [Hg] <;> iassumption

end Whole

end Cert.KernelIdeal.Talk

end
-- ==== Proof.IdealLaunch.lean ====
module

public import proofs.«01_k».proof.Proof.IdealWhole
public import Idealize.ShloMosaic.Lib.Pipeline.ValueKit

/-! # The run

The kernel launch as a region of the program, and the run of the whole program: from any memory whose counters are zero the
program ends with its arguments unchanged, each result block as the parameter `o` says, and every counter zero. -/

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)
open Idealize.ShloMosaic.SiteBlocks (L lv mem_L')
open Cert.KernelIdeal Cert.KernelIdeal.Gen

variable {F : FTy → Type} [FloatOps F]

local notation "𝕄" => MT nD τ sig ℕ (Elt F) ℕ UU ℕ

/-- The rows a device enters the launch with. -/
def xAt (m : (ℓ : Loc nD τ sig) → Buf (Elt F) ℓ) (c : Dev nD) : S512x256.Idx → Elt F .bf16 := V1 m c main_arg0
/-- The destinations a device enters the launch with. -/
def dAt (m : (ℓ : Loc nD τ sig) → Buf (Elt F) ℓ) (c : Dev nD) : S1x512.Idx → Elt F .i32 := V1 m c main_v10

/-- What the parameters of a run must satisfy: `S` says which windows travel, `stg` what each device lays out, `o` what each
    device ends with. -/
structure Fits (m : (ℓ : Loc nD τ sig) → Buf (Elt F) ℓ) (S : Dev nD → Fin 4 → Bool) (stg o : Dev nD → S512x256.Idx → Elt F .bf16) : Prop where
  laid : ∀ c, stg c = sortedB (dAt m c) (xAt m c)
  sends : ∀ c k, isSet (sendV (topBit c) (cnt (F := F) (dAt m c)) k) ↔ S c k = true
  waits : ∀ c k, isSet (recvV (topBit c) (Scalar.subi 512#32 (cnt (F := F) (dAt m c))) k) ↔ S (pr c) k = true
  ends : ∀ c (g : S512x256.Idx → Elt F .bf16), (∀ k, S (pr c) k = true → ∀ i ∈ win k, g i = stg (pr c) i) → merged c (dAt m c) (xAt m c) g = o c

section Run

variable (m : (ℓ : Loc nD τ sig) → Buf (Elt F) ℓ) (S : Dev nD → Fin 4 → Bool) (stg o : Dev nD → S512x256.Idx → Elt F .bf16)

/-! ## The region's data -/

/-- The scoped buffers that no window stages. -/
def rest (c : Dev nD) : sProp 𝕄 := iprop((∃ f, ptS (F := F) c f) ∗ ∃ f, ptC (F := F) c f)

/-- The data of the launch's one grid point: before it everything is open, after it everything is closed. -/
def dat0 (c : Dev nD) : Dat τ (Elt F) ℕ ℕ UU ℕ cfg0 c where
  A := fun | 0 => V1 m c main_arg0 | 1 => V1 m c main_v10 | 2 => V1 m c main_v11
  after := fun | 0 => fun _ => xAt m c | 1 => fun _ => dAt m c | 2 => fun _ => o c
  Φ t := if t.val = 0 then iprop((∃ κ, opened S stg κ c) ∗ rest c ∗ ∃ r, prngReg c r) else iprop(closed c ∗ rest c ∗ ∃ r, prngReg c r)
  q _ := fullShare
  owed t := if t.val = 0 then O₀ S c else 0

def pdats : (p : Fin 1) → (c : Dev nD) → Dat τ (Elt F) ℕ ℕ UU ℕ (cfgs p) c
  | 0 => dat0 m S stg o

theorem owesAt_intro {cfg : Pipeline.Cfg sig Λ₀} {c : Dev nD} (dat : Dat τ (Elt F) ℕ ℕ UU ℕ cfg c) (t : Fin (cfg.N + 1))
    (O : CellTallies nD τ sig ℕ) (h0 : dat.owed t = O) (hr : dat.recorded t = Set.univ) :
    (ow c O : sProp 𝕄) ⊢ (dat.owesAt 0 t : sProp 𝕄) := by
  unfold Dat.owesAt Pipeline.owesWithin Dat.bound; rw [h0, hr]
  iintro ⟨%W, HO⟩; iexists W; isplitr; · ipureintro; exact fun _ _ => Or.inl trivial
  iexact HO
theorem owesAt_elim {cfg : Pipeline.Cfg sig Λ₀} {c : Dev nD} (dat : Dat τ (Elt F) ℕ ℕ UU ℕ cfg c) (t : Fin (cfg.N + 1))
    (O : CellTallies nD τ sig ℕ) (h0 : dat.owed t = O) :
    (dat.owesAt 0 t : sProp 𝕄) ⊢ ow c O := by
  unfold Dat.owesAt Pipeline.owesWithin; rw [h0]
  iintro ⟨%W, -, HO⟩; iexists W; iexact HO

theorem blk_x (c : Dev nD) (t : Fin cfg0.N) : (dat0 m S stg o c).blockOf 0 t = xAt m c := by
  obtain rfl := fin_N0 t
  funext i
  show V1 m c main_arg0 ((win0_0.rect t0_0).emb i) = V1 m c main_arg0 i
  congr 1
  funext a; apply Fin.ext
  exact Pipeline.Window.rect_emb_val_of_index_zero win0_0 t0_0 a ((by decide +kernel : ∀ a, win0_0.index t0_0 a = 0) a) i

theorem blk_d (c : Dev nD) (t : Fin cfg0.N) : (dat0 m S stg o c).blockOf 1 t = dAt m c := by
  obtain rfl := fin_N0 t
  funext i
  show V1 m c main_v10 ((win0_1.rect t0_0).emb i) = V1 m c main_v10 i
  congr 1
  funext a; apply Fin.ext
  exact Pipeline.Window.rect_emb_val_of_index_zero win0_1 t0_0 a ((by decide +kernel : ∀ a, win0_1.index t0_0 a = 0) a) i

theorem before_x (c : Dev nD) (t : Fin cfg0.N) (d) : (dat0 m S stg o c).before 0 t d = xAt m c :=
  ((dat0 m S stg o c).before_in_eq_fetched 0 rfl (fun _ => rfl) (fun _ _ _ => rfl) (fun t => (blk_x m S stg o c t).symm) t d).trans (blk_x m S stg o c t)
theorem before_d (c : Dev nD) (t : Fin cfg0.N) (d) : (dat0 m S stg o c).before 1 t d = dAt m c :=
  ((dat0 m S stg o c).before_in_eq_fetched 1 rfl (fun _ => rfl) (fun _ _ _ => rfl) (fun t => (blk_d m S stg o c t).symm) t d).trans (blk_d m S stg o c t)

theorem owns_x (c : Dev nD) (f : S512x256.Idx → Elt F .bf16) : (owns (c : Thread nD τ) ((cfg0.win 0).stage (cfg0.slots t0_0 0)) fullShare f : sProp 𝕄) = ptX c f :=
  owns_whole (c : Thread nD τ) cc0_stg0_0 fullShare f
theorem owns_d (c : Dev nD) (f : S1x512.Idx → Elt F .i32) : (owns (c : Thread nD τ) ((cfg0.win 1).stage (cfg0.slots t0_0 1)) fullShare f : sProp 𝕄) = ptD c f :=
  owns_whole (c : Thread nD τ) cc0_stg1_0 fullShare f
theorem owns_r (c : Dev nD) (f : S512x256.Idx → Elt F .bf16) : (owns (c : Thread nD τ) ((cfg0.win 2).stage (cfg0.slots t0_0 2)) fullShare f : sProp 𝕄) = ptR c f :=
  owns_whole (c : Thread nD τ) cc0_stg2_0 fullShare f

theorem owed_first (c : Dev nD) : (dat0 m S stg o c).owed t0_0.castSucc = O₀ S c := by
  show (if (t0_0.castSucc : Fin (cfg0.N + 1)).val = 0 then O₀ S c else 0) = O₀ S c; exact if_pos rfl
theorem owed_last (c : Dev nD) : (dat0 m S stg o c).owed t0_0.succ = 0 := by
  show (if (t0_0.succ : Fin (cfg0.N + 1)).val = 0 then O₀ S c else 0) = 0; exact if_neg (Nat.succ_ne_zero _)

set_option maxHeartbeats 1000000 in
/-- The body, at the one grid point. -/
theorem body0 (h : Fits m S stg o) (c : Dev nD) : BodyObligation (dat0 m S stg o c) defs₀ 𝒱₀ 0 Set.univ := fun t => by
  obtain rfl := fin_N0 t
  rw [bigSep_W0, bigSep_W0]
  show iprop(iprop((∃ κ, opened S stg κ c) ∗ rest c ∗ ∃ r, prngReg c r) ∗ (dat0 m S stg o c).owesAt 0 t0_0.castSucc
      ∗ (∃ d, owns (c : Thread nD τ) ((cfg0.win 0).stage (cfg0.slots t0_0 0)) fullShare ((dat0 m S stg o c).before 0 t0_0 d))
      ∗ (∃ d, owns (c : Thread nD τ) ((cfg0.win 1).stage (cfg0.slots t0_0 1)) fullShare ((dat0 m S stg o c).before 1 t0_0 d))
      ∗ (∃ d, owns (c : Thread nD τ) ((cfg0.win 2).stage (cfg0.slots t0_0 2)) fullShare ((dat0 m S stg o c).before 2 t0_0 d)))
    ⊢ wp frame (wpE (defs₀ (F := F)) 𝒱₀ c none) Set.univ progB fun _ =>
      iprop(iprop(closed c ∗ rest c ∗ ∃ r, prngReg c r) ∗ (dat0 m S stg o c).owesAt 0 t0_0.succ
        ∗ owns (c : Thread nD τ) ((cfg0.win 0).stage (cfg0.slots t0_0 0)) fullShare (xAt m c)
        ∗ owns (c : Thread nD τ) ((cfg0.win 1).stage (cfg0.slots t0_0 1)) fullShare (dAt m c)
        ∗ owns (c : Thread nD τ) ((cfg0.win 2).stage (cfg0.slots t0_0 2)) fullShare (o c))
  rw [owns_x, owns_d, owns_r]
  unfold rest
  iintro ⟨⟨⟨%κ, Hop⟩, ⟨⟨%fs, Hs⟩, ⟨%fc, Hc⟩⟩, Hp⟩, HO, ⟨%dx, Hx⟩, ⟨%dd, Hd⟩, ⟨%dr, Hr⟩⟩
  ihave HO := (owesAt_elim (dat0 m S stg o c) _ (O₀ S c) (owed_first m S stg o c)) $$ HO
  ihave Hx := (Entails.of_eq ((owns_x (F := F) c ((dat0 m S stg o c).before 0 t0_0 dx)).trans (by rw [before_x]))) $$ Hx
  ihave Hd := (Entails.of_eq ((owns_d (F := F) c ((dat0 m S stg o c).before 1 t0_0 dd)).trans (by rw [before_d]))) $$ Hd
  ihave Hr := (Entails.of_eq (owns_r (F := F) c ((dat0 m S stg o c).before 2 t0_0 dr))) $$ Hr
  iapply (body_run S stg κ c (dAt m c) (xAt m c) ((dat0 m S stg o c).before 2 t0_0 dr) fs fc (o c) (h.laid c) (h.sends c) (h.waits c) (h.ends c))
  isplitl [Hop]; · iexact Hop
  isplitl [Hx]; · iexact Hx
  isplitl [Hd]; · iexact Hd
  isplitl [Hr]; · iexact Hr
  isplitl [Hs]; · iexact Hs
  isplitl [Hc]; · iexact Hc
  isplitl [HO]; · iexact HO
  iintro ⟨Hcl, Hx, Hd, Hr, Hs, Hc, HO⟩
  isplitl [Hcl Hs Hc Hp]
  · isplitl [Hcl]; · iexact Hcl
    isplitl [Hs Hc]
    · isplitl [Hs]
      · iexists _; iexact Hs
      iexact Hc
    iexact Hp
  isplitl [HO]; · iapply (owesAt_intro (dat0 m S stg o c) t0_0.succ 0 (owed_last m S stg o c) rfl); iexact HO
  isplitl [Hx]; · iexact Hx
  isplitl [Hd] <;> iassumption

/-! ## The launch credit -/

theorem due_cell {c : Dev nD} {k : Fin 4} {g : GSem nD τ sig} {i : ℕ} (h : 0 < due S c k g i) : g.1 = (pr c : Thread nD τ) := by
  unfold due at h
  split at h
  · obtain ⟨rfl, rfl⟩ := Pipeline.tallyAt_pos h; rfl
  · exact absurd h (Nat.lt_irrefl 0)

theorem add_cell {A B : CellTallies nD τ sig ℕ} {P : GSem nD τ sig → ℕ → Prop} (hA : ∀ g i, 0 < A g i → P g i) (hB : ∀ g i, 0 < B g i → P g i) (g : GSem nD τ sig) (i : ℕ)
    (h : 0 < (A + B) g i) : P g i := by
  rw [Pi.add_apply, Finsupp.add_apply] at h
  exact (Nat.add_pos_iff_pos_or_pos.mp h).elim (hA g i) (hB g i)

theorem O₀_cell (c : Dev nD) : ∀ (g : GSem nD τ sig) (i : ℕ), 0 < O₀ S c g i → g.1 = (pr c : Thread nD τ) := by
  unfold O₀ dueAll
  refine add_cell (add_cell (add_cell (add_cell (add_cell ?_ ?_) ?_) ?_) ?_) ?_
  · intro g i h; exact absurd h (Nat.lt_irrefl 0)
  · intro g i h; exact due_cell S h
  · intro g i h; exact due_cell S h
  · intro g i h; exact due_cell S h
  · intro g i h; exact due_cell S h
  · intro g i h; obtain ⟨rfl, rfl⟩ := Pipeline.tallyAt_pos h; rfl

theorem O₀_level (c : Dev nD) : ∀ (g : GSem nD τ sig) (i : ℕ), 0 < O₀ S c g i → i ∈ L 3 g ∧ (0 : ℕ) < lv g i := by
  unfold O₀
  refine add_cell ?_ ?_
  · intro g i h
    obtain ⟨h1, rfl⟩ := dueAll_pos S h
    exact ⟨mem_L' h1 (by decide), by show 0 < 2; decide⟩
  · intro g i h; obtain ⟨rfl, rfl⟩ := Pipeline.tallyAt_pos h
    exact ⟨mem_L' rfl (by decide), by show 0 < 1; decide⟩

/-- Each device's share of the launch credit: what its partner owes it. -/
theorem share_eq (c : Dev nD) : (Pipeline.launchCred (O₀ S) c : sProp 𝕄) = cred (O₀ S (pr c)) :=
  Pipeline.launchCred_of_sum (O₀ S) (fun d => O₀ S (pr d))
    (Finset.sum_bij (fun d _ => pr d) (fun _ _ => Finset.mem_univ _) (fun a _ b _ h => pr_inj h) (fun b _ => ⟨pr b, Finset.mem_univ _, pr_pr b⟩) (fun a _ => by rw [pr_pr]))
    (fun d g hg => by
      obtain ⟨i, hi⟩ := DFunLike.ne_iff.mp hg
      have := O₀_cell S (pr d) g i (Nat.pos_of_ne_zero hi)
      rwa [pr_pr] at this) c

theorem cred_due (c : Dev nD) (k : Fin 4) : (cred (due S (pr c) k) : sProp 𝕄) ⊢ fore S c k := by
  unfold due fore
  split
  · rw [pr_pr]
  · exact Entails.of_eq cred_zero

theorem share (c : Dev nD) : (Pipeline.launchCred (O₀ S) c : sProp 𝕄) ⊢ iprop(cred (tallyAt (barC c) 1 1) ∗ four (fore S c)) := by
  rw [share_eq]
  unfold O₀ dueAll
  rw [pr_pr]
  iintro H
  ihave H := (cred_add _ _).1 $$ H
  icases H with ⟨H, Hb⟩
  ihave H := (cred_add _ _).1 $$ H
  icases H with ⟨H, H0⟩
  ihave H := (cred_add _ _).1 $$ H
  icases H with ⟨H, H1⟩
  ihave H := (cred_add _ _).1 $$ H
  icases H with ⟨H, H2⟩
  ihave H := (cred_add _ _).1 $$ H
  icases H with ⟨-, H3⟩
  isplitl [Hb]; · iexact Hb
  isplitl [H0]; · iapply (cred_due S c 0); iexact H0
  isplitl [H1]; · iapply (cred_due S c 1); iexact H1
  isplitl [H2]; · iapply (cred_due S c 2); iexact H2
  iapply (cred_due S c 3); iexact H3

/-! ## Opening the cells -/

/-- A device's one neighbour. -/
abbrev nb (c : Dev nD) : Finset (Dev nD) := {pr c}

/-- What rides with a device from the program's launch to the kernel launch. -/
def kept (c : Dev nD) : sProp 𝕄 := iprop(Fm.launched ER (Rd S stg) nb c ∗ cred (tallyAt (barC c) 1 1) ∗ four (fore S c))

theorem bigSep_dorm {M : Type} [URA M] (Φ : SemLoc sig → sProp M) :
    bigSep (Fm.dorm 0) Φ = iprop(Φ (.dma (sendS 0)) ∗ Φ (.dma (sendS 1)) ∗ Φ (.dma (sendS 2)) ∗ Φ (.dma (sendS 3))
      ∗ Φ (.dma (recvS 0)) ∗ Φ (.dma (recvS 1)) ∗ Φ (.dma (recvS 2)) ∗ Φ (.dma (recvS 3))) :=
  bigSep_eq_bigSepL_of_eq [.dma (sendS 0), .dma (sendS 1), .dma (sendS 2), .dma (sendS 3), .dma (recvS 0), .dma (recvS 1), .dma (recvS 2), .dma (recvS 3)] (by decide) (by decide) Φ

theorem ownSems_eq (c : Dev nD) : (Pipeline.ownSems0 osem c : sProp 𝕄)
    = iprop(semVal (sendC c 0) 0 ∗ semVal (sendC c 1) 0 ∗ semVal (sendC c 2) 0 ∗ semVal (sendC c 3) 0
      ∗ semVal (recvC c 0) 0 ∗ semVal (recvC c 1) 0 ∗ semVal (recvC c 2) 0 ∗ semVal (recvC c 3) 0) :=
  bigSep_univ_eq_bigSepL [(0 : Fin 8), 1, 2, 3, 4, 5, 6, 7] (by decide) (by decide) (fun k : Fin 8 => (semVal ((c : Thread nD τ), osem k) 0 : sProp 𝕄))

set_option maxRecDepth 10000 in
theorem bigSep_toks {M : Type} [URA M] (c : Dev nD) (Φ : GSem nD τ sig × ℕ × Unit → sProp M) :
    bigSep (toksOf c) Φ = iprop(Φ (barC (pr c), 0, ()) ∗ Φ (recvC (pr c) 0, 0, ()) ∗ Φ (recvC (pr c) 1, 0, ()) ∗ Φ (recvC (pr c) 2, 0, ()) ∗ Φ (recvC (pr c) 3, 0, ())
      ∗ Φ (sendC c 0, 0, ()) ∗ Φ (sendC c 1, 0, ()) ∗ Φ (sendC c 2, 0, ()) ∗ Φ (sendC c 3, 0, ())) :=
  bigSep_eq_bigSepL_of_eq [(barC (pr c), 0, ()), (recvC (pr c) 0, 0, ()), (recvC (pr c) 1, 0, ()), (recvC (pr c) 2, 0, ()), (recvC (pr c) 3, 0, ()),
    (sendC c 0, 0, ()), (sendC c 1, 0, ()), (sendC c 2, 0, ()), (sendC c 3, 0, ())] (by revert c; decide) (by revert c; decide) Φ

theorem open_send (κ : GSem nD τ sig → ℕ) (c : Dev nD) (k : Fin 4) :
    iprop(Fm.cellInvs ER (Rd S stg) κ ∗ openTok ER (sendC c k) ∗ semVal (sendC c k) 0) ⊢ (|={Set.univ}=> iprop(atPos ER (sendC c k) 0 ∅ 0 ∗ reached ER (sendC c k) 0) : sProp 𝕄) := by
  iintro ⟨#HI, Ho, Hv⟩
  ihave #HIb := (Fm.cellInvs_dorm ER (Rd S stg) κ c (send_dorm k)) $$ HI
  iapply (Rounds.cell_open ER (Rd S stg) (g := sendC c k) (Set.mem_univ (κ (sendC c k))))
  isplitr; · iexact HIb
  isplitl [Ho] <;> iassumption

theorem open_recv (κ : GSem nD τ sig → ℕ) (c : Dev nD) (k : Fin 4) :
    iprop(Fm.cellInvs ER (Rd S stg) κ ∗ openTok ER (recvC c k) ∗ semVal (recvC c k) 0) ⊢ (|={Set.univ}=> iprop(atPos ER (recvC c k) 0 ∅ 0 ∗ reached ER (recvC c k) 0) : sProp 𝕄) := by
  iintro ⟨#HI, Ho, Hv⟩
  ihave #HIb := (Fm.cellInvs_dorm ER (Rd S stg) κ c (recv_dorm k)) $$ HI
  iapply (Rounds.cell_open ER (Rd S stg) (g := recvC c k) (Set.mem_univ (κ (recvC c k))))
  isplitr; · iexact HIb
  isplitl [Ho] <;> iassumption

theorem hopen (c : Dev nD) : iprop(kept S stg c ∗ Pipeline.ownSems0 osem c ∗ levAts (L 3) lv) ⊢ (|={Set.univ}=> iprop(∃ κ, opened S stg κ c) : sProp 𝕄) := by
  rw [ownSems_eq]
  unfold kept TalkSites.Fam.launched TalkSites.Fam.barPos
  rw [bigSep_singleton, Finset.univ_unique, bigSep_singleton]
  unfold TalkSites.Fam.rides
  rw [show (default : Fin 1) = 0 from rfl, bigSep_dorm, show Fm.toks c 0 = toksOf c from rfl, bigSep_toks]
  iintro ⟨⟨⟨⟨⟨%κ, #HI⟩, HaB, HrB⟩, -, ⟨Os0, Os1, Os2, Os3, Or0, Or1, Or2, Or3⟩, ⟨TB, Tr0, Tr1, Tr2, Tr3, Ts0, Ts1, Ts2, Ts3⟩⟩, HcB, Hf⟩,
    ⟨Vs0, Vs1, Vs2, Vs3, Vr0, Vr1, Vr2, Vr3⟩, Hlev⟩
  imod (open_send S stg κ c 0) $$ [Os0 Vs0] with ⟨As0, Rs0⟩
  · isplitr; · iexact HI
    isplitl [Os0] <;> iassumption
  imod (open_send S stg κ c 1) $$ [Os1 Vs1] with ⟨As1, Rs1⟩
  · isplitr; · iexact HI
    isplitl [Os1] <;> iassumption
  imod (open_send S stg κ c 2) $$ [Os2 Vs2] with ⟨As2, Rs2⟩
  · isplitr; · iexact HI
    isplitl [Os2] <;> iassumption
  imod (open_send S stg κ c 3) $$ [Os3 Vs3] with ⟨As3, Rs3⟩
  · isplitr; · iexact HI
    isplitl [Os3] <;> iassumption
  imod (open_recv S stg κ c 0) $$ [Or0 Vr0] with ⟨Ar0, Rr0⟩
  · isplitr; · iexact HI
    isplitl [Or0] <;> iassumption
  imod (open_recv S stg κ c 1) $$ [Or1 Vr1] with ⟨Ar1, Rr1⟩
  · isplitr; · iexact HI
    isplitl [Or1] <;> iassumption
  imod (open_recv S stg κ c 2) $$ [Or2 Vr2] with ⟨Ar2, Rr2⟩
  · isplitr; · iexact HI
    isplitl [Or2] <;> iassumption
  imod (open_recv S stg κ c 3) $$ [Or3 Vr3] with ⟨Ar3, Rr3⟩
  · isplitr; · iexact HI
    isplitl [Or3] <;> iassumption
  imodintro
  iexists κ
  unfold opened lane
  isplitr; · iexact HI
  isplitl [HaB]; · iexact HaB
  isplitl [HrB]; · iexact HrB
  isplitl [TB]; · iexact TB
  isplitl [HcB]; · iexact HcB
  isplitl [Hlev]; · iexact Hlev
  isplitl [Hf]; · iexact Hf
  isplitl [Ts0 Ts1 Ts2 Ts3 Rs0 Rs1 Rs2 Rs3 Tr0 Tr1 Tr2 Tr3]
  · isplitl [Ts0 Rs0 Tr0]
    · isplitl [Ts0]; · iexact Ts0
      isplitl [Rs0] <;> iassumption
    isplitl [Ts1 Rs1 Tr1]
    · isplitl [Ts1]; · iexact Ts1
      isplitl [Rs1] <;> iassumption
    isplitl [Ts2 Rs2 Tr2]
    · isplitl [Ts2]; · iexact Ts2
      isplitl [Rs2] <;> iassumption
    isplitl [Ts3]; · iexact Ts3
    isplitl [Rs3] <;> iassumption
  isplitl [As0 As1 As2 As3]
  · isplitl [As0]; · iexact As0
    isplitl [As1]; · iexact As1
    isplitl [As2] <;> iassumption
  isplitl [Ar0 Ar1 Ar2 Ar3]
  · isplitl [Ar0]; · iexact Ar0
    isplitl [Ar1]; · iexact Ar1
    isplitl [Ar2] <;> iassumption
  isplitl [Rr0]; · iexact Rr0
  isplitl [Rr1]; · iexact Rr1
  isplitl [Rr2] <;> iassumption

/-! ## The region -/

/-- What the launch leaves: in the result, `o`. -/
def outs : Outs (F := F) := fun _ r c => if h : r = main_v11 then h ▸ (o c : Buf (Elt F) ((c : Thread nD τ).loc main_v11)) else V1 m c r
theorem outs_res (c : Dev nD) : outs m o 2 main_v11 c = o c := dif_pos rfl

theorem V2_res (c : Dev nD) : V2 m (outs m o) c main_v11 = o c := by
  show Function.update (V1 m c) (Proc.devRef .tc main_v11) (outs m o 2 main_v11 c) (Proc.devRef .tc main_v11) = o c
  rw [Function.update_self, outs_res]

theorem kit0 : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- The unscoped buffers that are no window's array. -/
abbrev others : Finset (DevRef τ sig) := Pipeline.ucRefs τ sig \ Pipeline.arrRefs (τ := τ) spec0

theorem owed_zero (c : Dev nD) : (pdats m S stg o 0 c).owed 0 = 0 + O₀ S c := by
  rw [zero_add]; show (if (0 : Fin (cfg0.N + 1)).val = 0 then O₀ S c else 0) = O₀ S c; exact if_pos rfl
theorem owed_end (c : Dev nD) : (pdats m S stg o 0 c).owed (Fin.last _) = 0 := by
  show (if (Fin.last cfg0.N).val = 0 then O₀ S c else 0) = 0
  rw [Fin.val_last, if_neg (by rw [show cfg0.N = 1 from N_0]; decide)]

theorem cut0 (c : Dev nD) (t : Fin ((Pipeline.pin (pcfgs (F := F)) adm 0).N + 1)) (g : GSem nD τ sig) (i : ℕ) (h : 0 < (pdats m S stg o 0 c).owed t g i) :
    i ∈ L 3 g ∧ (0 : ℕ) < lv g i := by
  have e : (pdats m S stg o 0 c).owed t = if t.val = 0 then O₀ S c else 0 := rfl
  rw [e] at h
  split at h
  · exact O₀_level S c g i h
  · exact absurd h (Nat.lt_irrefl 0)

theorem rest_eq (c : Dev nD) : (Pipeline.scopedRest (Ix := ℕ) (Name := ℕ) (U := UU) (Lvl := ℕ) (Val := Elt F) (Pipeline.pin (pcfgs (F := F)) adm 0).spec c : sProp 𝕄) = rest c :=
  scopedRest0_eq c

theorem hin0 (c : Dev nD) : iprop(Pipeline.scopedRest (Pipeline.pin (pcfgs (F := F)) adm 0).spec c ∗ (∃ r, prngReg c r)
      ∗ StableHlo.held (c.tc : Thread nD τ) (∅ : Finset (DevRef τ sig)) (V1 m c) ∗ ∃ κ, opened S stg κ c)
    ⊢ (pdats m S stg o 0 c).Φ 0 := by
  rw [show (pdats m S stg o 0 c).Φ 0 = iprop((∃ κ, opened S stg κ c) ∗ rest c ∗ ∃ r, prngReg c r) from rfl, rest_eq]
  iintro ⟨Hs, Hp, -, HK⟩
  isplitl [HK]; · iexact HK
  isplitl [Hs] <;> iassumption

theorem hout0 (c : Dev nD) : (pdats m S stg o 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) (∅ : Finset (DevRef τ sig)) (V2 m (outs m o) c) ∗ Pipeline.ownSems0 osem c ∗ semVal (barC c) 0) := by
  have e : (pdats m S stg o 0 c).Φ (Fin.last (Pipeline.pin (pcfgs (F := F)) adm 0).N) = iprop(closed c ∗ rest c ∗ ∃ r, prngReg c r) := by
    show (if (Fin.last cfg0.N).val = 0 then iprop((∃ κ, opened S stg κ c) ∗ rest c ∗ ∃ r, prngReg c r) else iprop(closed c ∗ rest c ∗ ∃ r, prngReg c r)) = _
    rw [Fin.val_last, if_neg (by rw [show cfg0.N = 1 from N_0]; decide)]
  rw [e, rest_eq, ownSems_eq]
  unfold closed StableHlo.held
  rw [bigSep_empty]
  iintro ⟨⟨Hb, ⟨S0, S1, S2, S3⟩, ⟨R0, R1, R2, R3⟩⟩, Hs, Hp⟩
  isplitl [Hs]; · iexact Hs
  isplitl [Hp]; · iexact Hp
  isplitr; · iempintro
  isplitr [Hb]
  · isplitl [S0]; · iexact S0
    isplitl [S1]; · iexact S1
    isplitl [S2]; · iexact S2
    isplitl [S3]; · iexact S3
    isplitl [R0]; · iexact R0
    isplitl [R1]; · iexact R1
    isplitl [R2] <;> iassumption
  iexact Hb

theorem arr_in (c : Dev nD) : ∀ w, (pdats m S stg o 0 c).arrAt w 0 = V1 m c (Proc.devRef .tc (Pipeline.arrRef (Pipeline.pin (pcfgs (F := F)) adm 0).spec w))
  | 0 => rfl | 1 => rfl | 2 => rfl

theorem arr_res (c : Dev nD) : (dat0 m S stg o c).arrAt 2 cfg0.N = o c :=
  (dat0 m S stg o c).arrAt_eq_of_after_last 2 t0_0 (by decide +kernel) (o c) fun j => rfl

theorem arr_out (c : Dev nD) : ∀ w, (pdats m S stg o 0 c).arrAt w (Pipeline.pin (pcfgs (F := F)) adm 0).N
    = V2 m (outs m o) c (Proc.devRef .tc (Pipeline.arrRef (Pipeline.pin (pcfgs (F := F)) adm 0).spec w))
  | 0 => ((dat0 m S stg o c).arrAt_in 0 rfl _).trans (V2_of m (outs m o) c main_arg0 (by decide)).symm
  | 1 => ((dat0 m S stg o c).arrAt_in 1 rfl _).trans (V2_of m (outs m o) c main_v10 (by decide)).symm
  | 2 => (arr_res m S stg o c).trans (V2_res m o c).symm

theorem others_same (c : Dev nD) : ∀ b ∈ others \ ∅, V2 m (outs m o) c b = V1 m c b := fun b hb =>
  Function.update_of_ne (fun e => by
    subst e
    exact absurd (Finset.mem_sdiff.mp hb).1 (by decide)) _ _

set_option backward.isDefEq.respectTransparency.types false in
/-- The kernel launch as a region. -/
def reg0 (h : Fits m S stg o) : RegionSeg (pcfgs (F := F)) adm (pdats m S stg o) 0 defs₀ 𝒱₀ (L 3) lv 0 :=
  Pipeline.RegionSeg.ofTalk (pcfgs (F := F)) adm (pdats m S stg o) 0 defs₀ 𝒱₀ (L 3) lv 0 osem (by decide : Pipeline.OwnSemFacts spec0 osem)
    ∅ others (Finset.empty_subset _) kit0 rfl (fun c => (body0 m S stg o h c).loose)
    (fun _ => 0) (O₀ S) (owed_zero m S stg o) (owed_end m S stg o) (fun _ => rfl) (fun c w => by revert w; intro w; fin_cases w <;> rfl)
    (V1 m) (V2 m (outs m o)) (others_same m o)
    (kept S stg) (fun c => semVal (barC c) 0) (fun c => iprop(∃ κ, opened S stg κ c)) (fun c => semVal (barC c) 0)
    (hopen S stg) (hin0 m S stg o) (hout0 m S stg o)
    (fun c => by iintro H; imodintro; iexact H)
    (fun _ => 0)
    ⟨fun c w s => mem_L' rfl (by decide), fun _ _ _ => Nat.le_refl 0, fun c t g i h => cut0 m S stg o c t g i h⟩
    (fun _ => iprop(emp))
    (arr_in m S stg o) (arr_out m S stg o)

/-- What rides beside the buffers: before the launch, and after it. -/
def E (j : Fin 2) (c : Dev nD) : sProp 𝕄 := match j with
  | 0 => iprop(kept S stg c ∗ (∃ r, prngReg c r) ∗ ow c (O₀ S c))
  | 1 => iprop(semVal (barC c) 0 ∗ ow c 0)

theorem held_arr (c : Dev nD) (W : Valuation τ sig (Elt F)) :
    (StableHlo.held (c : Thread nD τ) (Pipeline.ucRefs τ sig) W : sProp 𝕄)
      = iprop(StableHlo.held (c : Thread nD τ) (Pipeline.arrRefs (τ := τ) spec0) W ∗ StableHlo.held (c : Thread nD τ) others W) :=
  StableHlo.held_sub_split (c : Thread nD τ) (Pipeline.arrRefs_sub_ucRefs spec0 (by decide)) W

theorem reg_pre (h : Fits m S stg o) (c : Dev nD) :
    iprop(StableHlo.held (c : Thread nD τ) (Pipeline.ucRefs τ sig) (V1 m c) ∗ E S stg 0 c) ⊢ (reg0 m S stg o h).pre c := by
  show _ ⊢ iprop(StableHlo.held (c.tc : Thread nD τ) (Pipeline.arrRefs (τ := τ) spec0) (V1 m c) ∗ (∃ r, prngReg c r)
    ∗ (StableHlo.held (c.tc : Thread nD τ) others (V1 m c) ∗ emp) ∗ kept S stg c ∗ ∃ Wd, owes (c : Thread nD τ) (0 + O₀ S c) Wd)
  rw [held_arr, zero_add]
  unfold E
  iintro ⟨⟨Ha, Ho⟩, HK, Hp, HO⟩
  isplitl [Ha]; · iexact Ha
  isplitl [Hp]; · iexact Hp
  isplitl [Ho]
  · isplitl [Ho]; · iexact Ho
    iempintro
  isplitl [HK] <;> iassumption

theorem reg_post (h : Fits m S stg o) (c : Dev nD) :
    (reg0 m S stg o h).post c ⊢ iprop(StableHlo.held (c : Thread nD τ) (Pipeline.ucRefs τ sig) (V2 m (outs m o) c) ∗ E S stg 1 c) := by
  show iprop(StableHlo.held (c.tc : Thread nD τ) (Pipeline.arrRefs (τ := τ) spec0) (V2 m (outs m o) c) ∗ (∃ r, prngReg c r)
    ∗ (StableHlo.held (c.tc : Thread nD τ) others (V2 m (outs m o) c) ∗ emp) ∗ semVal (barC c) 0 ∗ ∃ Wd, owes (c : Thread nD τ) 0 Wd) ⊢ _
  rw [held_arr]
  unfold E
  iintro ⟨Ha, -, ⟨Ho, -⟩, Hb, HO⟩
  isplitl [Ha Ho]
  · isplitl [Ha] <;> iassumption
  isplitl [Hb] <;> iassumption

/-! ## The program's launch -/

/-- The launch element: the staging cells' and the talking cells'. -/
def u₀ : UU := (initOf (Pipeline.cells cfgs cellOf_inj) (Pipeline.launchToks cfgs cellOf_inj), launchOf Fm.S Fm.Sd Fm.T)

/-- The talking cells' part, kept on one device until the launch deals it. -/
def G : Dev nD → sProp 𝕄 := SiteBlocks.onDev 0 (BI.own (ER (launchOf Fm.S Fm.Sd Fm.T)))

theorem hu (_ : Unit) : (ownU u₀ : sProp 𝕄) ⊢ |={Set.univ}=> iprop(BI.own (EP (initOf (Pipeline.cells cfgs cellOf_inj) (Pipeline.launchToks cfgs cellOf_inj))) ∗ bigSep Finset.univ (G (F := F))) := by
  unfold u₀ G
  iintro Hu
  ihave H := (ownU_pair _ _) $$ Hu
  icases H with ⟨HP, HX⟩
  imodintro
  isplitl [HP]; · iexact HP
  rw [SiteBlocks.bigSep_onDev]; iexact HX

theorem sems_eq (c : Dev nD) : (unscopedSems0 c : sProp 𝕄) = semVal (barC c) 0 := by
  unfold unscopedSems0
  rw [show (Finset.univ.filter fun sm : SemLoc sig => ¬ sm.isScoped .tc) = {SemLoc.reg barS} from by decide, BI.bigSep_singleton]

/-- The talking cells funded: the barrier counters and the launch element become what every device keeps. -/
theorem funded : iprop((bigSep Finset.univ fun c : Dev nD => (semVal (barC c) 0 : sProp 𝕄)) ∗ BI.own (ER (launchOf Fm.S Fm.Sd Fm.T)))
    ⊢ (|={Set.univ}=> bigSep Finset.univ (Fm.launched ER (Rd S stg) nb) : sProp 𝕄) := by
  have h := Fm.funds ER (Rd S stg) (fun _ _ h => h) nb (Es := Set.univ)
  unfold SiteBlocks.Funds at h
  have hc (c : Dev nD) : (semVal (barC c) 0 : sProp 𝕄) ⊢ iprop(semVal (barC c) 0 ∗ Pipeline.launchCred (fun _ => 0) c) := by
    rw [Pipeline.launchCred_of_sum (fun _ => 0) (fun _ => 0) rfl (fun _ _ h => absurd rfl h) c, cred_zero]
    iintro H
    isplitl [H]; · iexact H
    iempintro
  exact (sep_mono_left (bigSep_mono fun c _ => hc c)).trans h

theorem init (ρ : Dev nD → PrngReg) : iprop((bigSep Finset.univ fun c : Dev nD => iprop(unscopedBufs c (fun b => m ((c : Thread nD τ).loc b)) ∗ unscopedSems0 c
      ∗ owes (c : Thread nD τ) (O₀ S c) ∅ ∗ Pipeline.launchCred (O₀ S) c ∗ prngReg c (ρ c) ∗ G c)) ∗ levAts (L 3) lv)
    ⊢ (|={Set.univ}=> bigSep Finset.univ fun c : Dev nD => iprop(StableHlo.held (c : Thread nD τ) (Pipeline.ucRefs τ sig) (V0 m c) ∗ E S stg 0 c) : sProp 𝕄) := by
  have hcore (c : Dev nD) : iprop(unscopedBufs c (fun b => m ((c : Thread nD τ).loc b)) ∗ unscopedSems0 c
        ∗ owes (c : Thread nD τ) (O₀ S c) ∅ ∗ Pipeline.launchCred (O₀ S) c ∗ prngReg c (ρ c) ∗ G c)
      ⊢ (iprop(iprop(StableHlo.held (c : Thread nD τ) (Pipeline.ucRefs τ sig) (V0 m c) ∗ cred (tallyAt (barC c) 1 1) ∗ four (fore S c) ∗ (∃ r, prngReg c r) ∗ ow c (O₀ S c))
          ∗ (semVal (barC c) 0 ∗ G c)) : sProp 𝕄) := by
    rw [show unscopedBufs c (fun b => m ((c : Thread nD τ).loc b)) = StableHlo.held (c : Thread nD τ) (Pipeline.ucRefs τ sig) (V0 m c) from
      Pipeline.unscopedBufs_held (Ix := ℕ) (Name := ℕ) (U := UU) (Lvl := ℕ) c (V0 m c), sems_eq]
    iintro ⟨Hh, Hb, HO, Hcr, Hp, HG⟩
    ihave Hc := (share (F := F) S c) $$ Hcr
    icases Hc with ⟨H1, HN⟩
    isplitr [Hb HG]
    · isplitl [Hh]; · iexact Hh
      isplitl [H1]; · iexact H1
      isplitl [HN]; · iexact HN
      isplitl [Hp]; · iexists (ρ c); iexact Hp
      iexists ∅; iexact HO
    isplitl [Hb] <;> iassumption
  iintro ⟨H, -⟩
  ihave H' := (show (bigSep Finset.univ fun c : Dev nD => iprop(unscopedBufs c (fun b => m ((c : Thread nD τ).loc b)) ∗ unscopedSems0 c
          ∗ owes (c : Thread nD τ) (O₀ S c) ∅ ∗ Pipeline.launchCred (O₀ S) c ∗ prngReg c (ρ c) ∗ G c))
      ⊢ (bigSep Finset.univ fun c : Dev nD => iprop(iprop(StableHlo.held (c : Thread nD τ) (Pipeline.ucRefs τ sig) (V0 m c) ∗ cred (tallyAt (barC c) 1 1) ∗ four (fore S c) ∗ (∃ r, prngReg c r) ∗ ow c (O₀ S c))
          ∗ (semVal (barC c) 0 ∗ G c)) : sProp 𝕄) from bigSep_mono fun c _ => hcore c) $$ H
  ihave H2 := (Entails.of_eq (bigSep_sep' _ _ _)) $$ H'
  icases H2 with ⟨HB, H3⟩
  ihave H4 := (Entails.of_eq (bigSep_sep' _ _ _)) $$ H3
  icases H4 with ⟨Hv, HG⟩
  ihave Hu := (show bigSep Finset.univ (G (F := F)) ⊢ BI.own (ER (launchOf Fm.S Fm.Sd Fm.T)) from Entails.of_eq (SiteBlocks.bigSep_onDev 0 _)) $$ HG
  imod (funded (F := F) S stg) $$ [Hv Hu] with HL
  · isplitl [Hv] <;> iassumption
  imodintro
  iapply (show iprop((bigSep Finset.univ (Fm.launched ER (Rd S stg) nb))
      ∗ bigSep Finset.univ fun c : Dev nD => iprop(StableHlo.held (c : Thread nD τ) (Pipeline.ucRefs τ sig) (V0 m c) ∗ cred (tallyAt (barC c) 1 1) ∗ four (fore S c) ∗ (∃ r, prngReg c r) ∗ ow c (O₀ S c)))
      ⊢ (bigSep Finset.univ fun c : Dev nD => iprop(StableHlo.held (c : Thread nD τ) (Pipeline.ucRefs τ sig) (V0 m c) ∗ E S stg 0 c) : sProp 𝕄) from by
    rw [← bigSep_sep']
    refine bigSep_mono fun c _ => ?_
    show iprop(Fm.launched ER (Rd S stg) nb c ∗ StableHlo.held (c : Thread nD τ) (Pipeline.ucRefs τ sig) (V0 m c) ∗ cred (tallyAt (barC c) 1 1) ∗ four (fore S c) ∗ (∃ r, prngReg c r) ∗ ow c (O₀ S c))
      ⊢ iprop(StableHlo.held (c : Thread nD τ) (Pipeline.ucRefs τ sig) (V0 m c) ∗ kept S stg c ∗ (∃ r, prngReg c r) ∗ ow c (O₀ S c))
    unfold kept
    iintro ⟨HL, Hh, H1, HN, Hp, HO⟩
    isplitl [Hh]; · iexact Hh
    isplitl [HL H1 HN]
    · isplitl [HL]; · iexact HL
      isplitl [H1] <;> iassumption
    isplitl [Hp] <;> iassumption)
  isplitl [HL] <;> iassumption

/-! ## The run -/

theorem unscoped_eq : ∀ sm : SemLoc sig, sm.isScoped .tc = false → sm = .reg barS := by decide

set_option maxHeartbeats 1000000 in
set_option backward.isDefEq.respectTransparency.types false in
/-- The program ends, its arguments unchanged, each device's result `o`, every counter zero. -/
theorem run (h : Fits m S stg o) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v11) = o c) ∧ r.2.sem = fun _ => 0) := by
  refine Pipeline.θ_run_regions_kit_dev_sems (pcfgs (F := F)) adm (pdats m S stg o) 0 cellOf_inj EP defs₀ 𝒱₀ (L 3) lv m ρ main
    (segs m 𝒱₀ (L 3) lv (E S stg) 0 (pdats m S stg o) (reg0 m S stg o h))
    (fun c Q => by
      rewrite [main_chain c, Seg.run_eq_chain,
        show (segs m 𝒱₀ (L 3) lv (E S stg) 0 (pdats m S stg o) (reg0 m S stg o h) c).map Seg.prog = [
          StableHlo.seq (hostOps0 c),
          Prog.lift (.customCall (Pipeline.entry 0) ()) ] from rfl]
      dsimp (config := { failIfUnchanged := false }) only
      exact .rfl)
    (fun c => by simp only [segs, Seg.pipes_host, Seg.pipes_region, Seg.pipes_nil]; decide) (O₀ S) (SiteBlocks.hL 3) G u₀ (hu ())
    (T₀ := fun c => iprop(StableHlo.held (c : Thread nD τ) (Pipeline.ucRefs τ sig) (V0 m c) ∗ E S stg 0 c))
    (Tₙ := fun c => iprop(StableHlo.held (c : Thread nD τ) (Pipeline.ucRefs τ sig) (V2 m (outs m o) c) ∗ semVal (barC c) 0))
    (hch := fun c => ⟨.rfl, reg_pre m S stg o h c, (reg_post m S stg o h c).trans (by
      unfold E
      iintro ⟨Hh, Hb, HO⟩
      isplitr [HO]
      · isplitl [Hh] <;> iassumption
      iexact HO)⟩)
    (hinit := init m S stg ρ)
    (QY := fun c s => (s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_v11) = o c) ∧ s.sem (barC c) = 0)
    (hfin := fun c s' => ?_) (hQ := fun s h hs => ⟨fun c => (h c).1, sem_eq_zero hs fun c sm hsm => by
        obtain rfl := unscoped_eq sm hsm
        exact (h c).2⟩)
  unfold StableHlo.held
  iintro ⟨⟨Hh, Hb⟩, HSI⟩
  icombine HSI Hb gives %hb
  ihave Hr := (pointsTo_read_all (Pipeline.ucRefs τ sig) (fun b => ((c : Thread nD τ).1, b)) (V2 m (outs m o) c) s') $$ [Hh HSI]
  · isplitl [Hh] <;> iassumption
  icases Hr with ⟨%h, HSI⟩
  imodintro
  isplitr
  · ipureintro
    refine ⟨⟨(h (Proc.devRef .tc main_arg0) (Finset.mem_filter.mpr ⟨StableHlo.devRef_mem_tcRefs main_arg0, by decide⟩)).trans (V2_main_arg0 m (outs m o) c),
        (h (Proc.devRef .tc main_arg1) (Finset.mem_filter.mpr ⟨StableHlo.devRef_mem_tcRefs main_arg1, by decide⟩)).trans (V2_main_arg1 m (outs m o) c),
        (h (Proc.devRef .tc main_v11) (Finset.mem_filter.mpr ⟨StableHlo.devRef_mem_tcRefs main_v11, by decide⟩)).trans ?_⟩, by simpa using hb⟩
    exact V2_res m o c
  · iexact HSI

end Run

end Cert.KernelIdeal.Talk

end
-- ==== Proof.IdealCount.lean ====
module

public import proofs.«01_k».proof.Proof.IdealLaunch
public import proofs.«01_k».proof.Proof.Counting
public import Idealize.ShloMosaic.Lib.DynamicIndex
public import Idealize.ShloMosaic.Lib.StableHlo.RunClose

/-! # The count of zeros

What the body's count is, what it decides about the windows, and the frame: from a table in one of the five bands on every
device, the program runs. -/

@[expose] public section

noncomputable section

namespace Cert.KernelIdeal.Talk

open Idealize.ShloMosaic hiding ix0 ix1 ix2 ix3 eq_ix1 eq_ix2 eq_ix3
open Idealize.ShloMosaic.TcCoe Idealize.ShloMosaic.ValueIdx Idealize.ShloMosaic.StableHlo
open Idealize.ShloMosaic.StableHlo.Predicate
open Idealize.SL.Sem
open Cert.KernelIdeal Cert.KernelIdeal.Gen Cert.Counting

variable {F : FTy → Type} [FloatOps F]

/-- The second coordinate of a device. -/
def yOf (c : Dev nD) : Fin 2 := ⟨c.val / 4 % 2, Nat.mod_lt _ (by decide)⟩

theorem topBit_eq (c : Dev nD) : topBit c = if yOf c = 0 then 1#1 else 0#1 := by revert c; decide
theorem yOf_pr (c : Dev nD) : yOf (pr c) = 1 - yOf c := by revert c; decide

/-! ## The count -/

/-- The one row of a table of destinations. -/
def row (d : Vec F S1x512 .i32) (k : Fin 512) : BitVec 32 := d (ix2 0 k)

/-- The columns of a table with one row and one layer. -/
def pos3 : Fin 512 ≃ S1x1x512.Idx where
  toFun k := ix3 0 0 k
  invFun i := i 2
  left_inv _ := rfl
  right_inv i := by
    rw [eq_ix3 i]
    have h0 : (i 0) = ⟨0, Nat.one_pos⟩ := Fin.ext (Nat.lt_one_iff.mp (i 0).isLt)
    have h1 : (i 1) = ⟨0, Nat.one_pos⟩ := Fin.ext (Nat.lt_one_iff.mp (i 1).isLt)
    rw [h0, h1]; rfl

theorem reshape3 (k : Fin 512) : Shape.reshapeEquiv shapeCasts_S1x512_S1x1x512 (ix3 0 0 k) = (ix2 0 k : S1x512.Idx) :=
  Shape.reshapeEquiv_eq_of_rowMajor _ (by
    rw [Shape.rowMajor_val_three, Shape.rowMajor_val_two]
    show 0 * 512 + k.val = (0 * 1 + 0) * 512 + k.val
    omega)

/-- The body's count is the number of zeros in the row. -/
theorem cnt_eq (d : Vec F S1x512 .i32) : cnt (F := F) d = BitVec.ofNat 32 (zer (row d)) := by
  show multiReductionI .add [1, 2] S1 (k0_pay4 (F := F) d) 0#32 reduces_S1x1x512_S1 rfl _ = _
  refine (multiReductionI_eq_fold ..).trans ?_
  rw [show ∀ j : S1.Idx, (Finset.univ.filter fun i => reduces_S1x1x512_S1.drop i = j) = Finset.univ.map pos3.toEmbedding from fun j => by
    ext i; simp only [Finset.mem_filter, Finset.mem_univ, true_and, Finset.mem_map_equiv, iff_true]
    funext a; fin_cases a; exact Subsingleton.elim (α := Fin 1) _ _]
  rw [Finset.fold_map, ← fold_zer]
  refine Finset.fold_congr fun k _ => ?_
  show (IntOp.cmpi .eq (d (Shape.reshapeEquiv shapeCasts_S1x512_S1x512 (Shape.reshapeEquiv shapeCasts_S1x512_S1x1x512 (ix3 0 0 k)))) 0#32).setWidth 32 = _
  rw [Shape.reshapeEquiv_self, reshape3]; rfl

/-! ## The device's table -/

section Table

variable (m : (ℓ : Loc nD τ sig) → Buf (Elt F) ℓ)

/-- The first row of the device's half. -/
abbrev startV (c : Dev nD) : IVec S_ 32 :=
  muli (id (Host.remui (Host.divui (constantI S_ 32 (Dev.word c)) (constantI S_ 32 4#32)) (constantI S_ 32 2#32))) (constantI S_ 32 512#32)
/-- The same, as the slice reads it. -/
abbrev startW (c : Dev nD) : IVec S_ 32 :=
  select (cmpi .slt (startV c) (constantI S_ 32 0#32)) (addi (startV c) (constantI S_ 32 1024#32)) (startV c)

theorem start_eq (c : Dev nD) : (startW c (Shape.Idx.first h_S_)).toInt = ((yOf c).val * 512 : ℕ) := by
  revert c; decide

theorem table_eq (c : Dev nD) : dAt m c = fun i => shapeCast S1x512 (Host.dynamicSlice S512 (V0 m c main_arg1)
    (fun k => BitVec.toInt ((![startW c] : Fin 1 → IVec S_ 32) k (Shape.Idx.first h_S_))) sliceFits_S1024_S512) shapeCasts_S512_S1x512 i := by
  unfold dAt V1 hostOps0
  after_results_simp_entrywise
  rfl

theorem starts (c : Dev nD) : (fun k : Fin 1 => BitVec.toInt ((![startW c] : Fin 1 → IVec S_ 32) k (Shape.Idx.first h_S_))) = fun _ => (((yOf c).val * 512 : ℕ) : ℤ) := by
  funext k; fin_cases k; exact start_eq c

/-- A device's row of destinations is its half of the table. -/
theorem row_dAt (c : Dev nD) : row (dAt (F := F) m c) = half (m ((c.tc : Thread nD τ).loc main_arg1)) (yOf c) := by
  funext k
  unfold row half
  rw [table_eq]
  refine (congrArg (fun st : Fin S1024.rank → ℤ => shapeCast S1x512 (Host.dynamicSlice S512 (V0 m c main_arg1) st sliceFits_S1024_S512)
    shapeCasts_S512_S1x512 (ix2 0 k : S1x512.Idx)) (starts c)).trans ?_
  have hs : S1024.Slices ![(yOf c).val * 512] S512 := ⟨rfl, fun a => by
    have := (yOf c).isLt; fin_cases a; show (yOf c).val * 512 + 512 ≤ 1024; omega⟩
  rw [Host.dynamicSlice_eq_extractStridedSlice S512 _ _ ![(yOf c).val * 512] sliceFits_S1024_S512 hs (fun a => by fin_cases a; rfl)]
  show (m ((c.tc : Thread nD τ).loc main_arg1)) _ = _
  congr 1
  funext b; fin_cases b
  refine Fin.ext ?_
  show (yOf c).val * 512 + (Shape.reshapeEquiv shapeCasts_S512_S1x512 (ix2 0 k : S1x512.Idx) 0).val = _
  rw [show Shape.reshapeEquiv shapeCasts_S512_S1x512 (ix2 0 k : S1x512.Idx) = (ix1 k : S512.Idx) from
    Shape.reshapeEquiv_eq_of_rowMajor _ (by
      rw [Shape.rowMajor_val_one, Shape.rowMajor_val_two]
      show k.val = 0 * 512 + k.val
      omega)]

end Table

/-! ## The windows -/

/-- Which windows a device sends. -/
def sentB (j : ℕ) (c : Dev nD) (k : Fin 4) : Bool := if yOf c = 0 then decide (j ≤ k.val) else decide (k.val + j < 4)

theorem isSet_extui : ∀ s : BitVec 1, isSet (Scalar.extui s) ↔ s = 1#1 := by decide

theorem slt_hi (n : ℕ) (hn : n ≤ 512) (k : Fin 4) : Scalar.cmpi .slt (BitVec.ofNat 32 n) (hiW k) = 1#1 ↔ n < 128 * k.val + 128 := by
  show BitVec.ofBool ((BitVec.ofNat 32 n).slt (hiW k)) = 1#1 ↔ _
  rw [ofBool_eq_one_iff, BitVec.slt_iff_toInt_lt, toInt_ofNat_small n (by omega)]
  rw [show (hiW k).toInt = ((128 * k.val + 128 : ℕ) : ℤ) by revert k; decide]
  omega

theorem sgt_lo (n : ℕ) (hn : n ≤ 512) (k : Fin 4) : Scalar.cmpi .sgt (BitVec.ofNat 32 n) (loW k) = 1#1 ↔ 128 * k.val < n := by
  show BitVec.ofBool ((loW k).slt (BitVec.ofNat 32 n)) = 1#1 ↔ _
  rw [ofBool_eq_one_iff, BitVec.slt_iff_toInt_lt, toInt_ofNat_small n (by omega)]
  rw [show (loW k).toInt = ((128 * k.val : ℕ) : ℤ) by revert k; decide]
  omega

theorem sub_word (n : ℕ) (hn : n ≤ 512) : Scalar.subi 512#32 (BitVec.ofNat 32 n) = BitVec.ofNat 32 (512 - n) := by
  show 512#32 - BitVec.ofNat 32 n = _
  apply BitVec.eq_of_toNat_eq
  rw [BitVec.toNat_sub, BitVec.toNat_ofNat, BitVec.toNat_ofNat, BitVec.toNat_ofNat]
  omega

/-- What a count says of the windows that its device sends and waits for, on the first side and on the second. -/
def Ranged (j : ℕ) (y : Fin 2) (n : ℕ) : Prop :=
  n ≤ 512 ∧ if y = 0 then 128 * j ≤ n ∧ n < 128 * j + 128 else 128 * j + n ≤ 512 ∧ 512 < 128 * j + 128 + n

theorem Ranged.of_band {j : ℕ} {a : IVec S1024 32} (h : Band j a) (y : Fin 2) : Ranged j y (zer (half a y)) := by
  refine ⟨zer_le _, ?_⟩
  have := h.lo0; have := h.hi0; have := h.lo1; have := h.hi1
  fin_cases y
  · exact ⟨h.lo0, h.hi0⟩
  · exact ⟨h.lo1, h.hi1⟩

theorem one_of_ne {y : Fin 2} (h : ¬ y = 0) : y = 1 := by omega

theorem sends_of {j : ℕ} (c : Dev nD) (n : ℕ) (h : Ranged j (yOf c) n) (k : Fin 4) :
    isSet (sendV (topBit c) (BitVec.ofNat 32 n) k) ↔ sentB j c k = true := by
  obtain ⟨hn, h⟩ := h
  show isSet (Scalar.extui _) ↔ _
  rw [isSet_extui, topBit_eq]
  unfold sentB
  by_cases hy : yOf c = 0
  · rw [if_pos hy] at h; rw [if_pos hy, if_pos hy, decide_eq_true_eq]
    refine (slt_hi n hn k).trans ?_; have := k.isLt; omega
  · rw [if_neg hy] at h; rw [if_neg hy, if_neg hy, decide_eq_true_eq]
    refine (sgt_lo n hn k).trans ?_; have := k.isLt; omega

theorem waits_of {j : ℕ} (c : Dev nD) (n : ℕ) (h : Ranged j (yOf c) n) (k : Fin 4) :
    isSet (recvV (topBit c) (Scalar.subi 512#32 (BitVec.ofNat 32 n)) k) ↔ sentB j (pr c) k = true := by
  obtain ⟨hn, h⟩ := h
  rw [sub_word n hn]
  show isSet (Scalar.extui _) ↔ _
  rw [isSet_extui, topBit_eq]
  unfold sentB
  rw [yOf_pr]
  by_cases hy : yOf c = 0
  · rw [if_pos hy] at h; rw [if_pos hy, hy, if_neg (by decide), decide_eq_true_eq]
    refine (sgt_lo (512 - n) (by omega) k).trans ?_; have := k.isLt; omega
  · rw [if_neg hy] at h; rw [if_neg hy, one_of_ne hy, if_pos (by decide), decide_eq_true_eq]
    refine (slt_hi (512 - n) (by omega) k).trans ?_; have := k.isLt; omega

/-! ## The merge -/

/-- The merge takes the rows at or past the count (on the first side) or before it (on the second) from the receive buffer,
    moved by the count, and the others from the sorted rows. -/
theorem merged_apply (c : Dev nD) (d : Vec F S1x512 .i32) (x g : Vec F S512x256 .bf16) (r : Fin 512) (q : Fin 256) :
    merged c d x g (ix2 r q) = if (yOf c = 0 ↔ r.val < zer (row d)) then sortedA d x (ix2 r q)
      else g (ix2 ⟨(r.val + 512 - zer (row d)) % 512, Nat.mod_lt _ (by decide)⟩ q) := by
  have hn := zer_le (row d)
  have hc : k0_pay5 (k0_pay4 (F := F) d) (Idealize.ShloMosaic.ix3 0 0 0) = BitVec.ofNat 32 (zer (row d)) := (congrArg (k0_pay5 (k0_pay4 (F := F) d)) (funext fun a => by fin_cases a <;> rfl)).trans (cnt_eq d)
  have hmod : (BitVec.ofNat 32 (zer (row d))).toNat % 512 = zer (row d) % 512 := by
    rw [BitVec.toNat_ofNat, Nat.mod_eq_of_lt (show zer (row d) < 2 ^ 32 by omega)]
  have hlt : IntOp.cmpi .slt (BitVec.ofNat 32 r.val) (BitVec.ofNat 32 (zer (row d))) = if r.val < zer (row d) then 1#1 else 0#1 := by
    show BitVec.ofBool _ = _
    have : (BitVec.ofNat 32 r.val).slt (BitVec.ofNat 32 (zer (row d))) = decide (r.val < zer (row d)) := by
      rw [Bool.eq_iff_iff, BitVec.slt_iff_toInt_lt, toInt_ofNat_small _ (by omega), toInt_ofNat_small _ (by omega), decide_eq_true_eq]; omega
    rw [this]; by_cases h : r.val < zer (row d) <;> simp [h]
  have hrot : (r.val + 512 - (BitVec.ofNat 32 (zer (row d))).toNat % 512) % 512 = (r.val + 512 - zer (row d)) % 512 := by
    rw [hmod]; have := r.isLt; omega
  pointwise [merged, k0_pay9, k0_pay8]
  rw [hc]
  show Scalar.select (IntOp.xori (IntOp.cmpi .slt (BitVec.ofNat 32 r.val) (BitVec.ofNat 32 (zer (row d)))) (topBit c))
    (g (ix2 ⟨(r.val + 512 - (BitVec.ofNat 32 (zer (row d))).toNat % 512) % 512, Nat.mod_lt _ (by decide)⟩ q)) _ = _
  simp only [hrot]
  rw [hlt, topBit_eq]
  by_cases hy : yOf c = 0 <;> by_cases h : r.val < zer (row d) <;> simp only [hy, h, if_true, if_false, iff_true, true_iff, iff_false, not_true, not_false_iff, iff_self] <;> rfl

/-- The merge reads no row of the receive buffer that was not sent. -/
theorem merged_congr {j : ℕ} (c : Dev nD) (d : Vec F S1x512 .i32) (x g g' : Vec F S512x256 .bf16) (h : Ranged j (yOf c) (zer (row d)))
    (hg : ∀ k, sentB j (pr c) k = true → ∀ i ∈ win k, g i = g' i) : merged c d x g = merged c d x g' := by
  obtain ⟨hn, h⟩ := h
  funext i
  rw [eq_ix2 i]
  generalize hr : i 0 = r; generalize hq : i 1 = q
  change Fin 512 at r; change Fin 256 at q
  have e := merged_apply c d x g r q
  have e' := merged_apply c d x g' r q
  refine e.trans (Eq.trans ?_ e'.symm)
  split_ifs with hm
  · rfl
  have hr := r.isLt
  have key : ∃ k : Fin 4, sentB j (pr c) k = true ∧ 128 * k.val ≤ (r.val + 512 - zer (row d)) % 512 ∧ (r.val + 512 - zer (row d)) % 512 < 128 * k.val + 128 := by
    refine ⟨⟨(r.val + 512 - zer (row d)) % 512 / 128, by omega⟩, ?_, by dsimp only; omega, by dsimp only; omega⟩
    unfold sentB
    rw [yOf_pr]
    by_cases hy : yOf c = 0
    · rw [if_pos hy] at h
      have hr' : ¬ r.val < zer (row d) := fun h => hm (iff_of_true hy h)
      rw [hy, if_neg (by decide), decide_eq_true_eq]
      dsimp only; omega
    · rw [if_neg hy] at h
      have hr' : r.val < zer (row d) := by by_contra h'; exact hm (iff_of_false hy h')
      rw [one_of_ne hy, if_pos (by decide), decide_eq_true_eq]
      dsimp only; omega
  obtain ⟨k, hk, h1, h2⟩ := key
  exact hg k hk _ (mem_win.2 ⟨h1, h2⟩)

/-! ## The run from a banded table -/

section Banded

variable (m : (ℓ : Loc nD τ sig) → Buf (Elt F) ℓ)

/-- A device's rows in sorted order. -/
def stage (c : Dev nD) : S512x256.Idx → Elt F .bf16 := sortedB (dAt m c) (xAt m c)
/-- A device's result. -/
def result (c : Dev nD) : S512x256.Idx → Elt F .bf16 := merged c (dAt m c) (xAt m c) (stage m (pr c))

theorem fits (j : ℕ) (h : ∀ c : Dev nD, Band j (m ((c.tc : Thread nD τ).loc main_arg1))) : Fits m (sentB j) (stage m) (result m) := by
  have hR : ∀ c : Dev nD, Ranged j (yOf c) (zer (row (dAt (F := F) m c))) := fun c => by
    rw [row_dAt]; exact Ranged.of_band (h c) _
  refine ⟨fun c => rfl, fun c k => ?_, fun c k => ?_, fun c g hg => ?_⟩
  · rw [cnt_eq]; exact sends_of c _ (hR c) k
  · rw [cnt_eq]; exact waits_of c _ (hR c) k
  · exact merged_congr c _ _ _ _ (hR c) hg

/-- From a banded table on every device the program ends, its arguments unchanged, every counter zero. -/
theorem run_banded (j : ℕ) (h : ∀ c : Dev nD, Band j (m ((c.tc : Thread nD τ).loc main_arg1))) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v11) = result m c) ∧ r.2.sem = fun _ => 0) :=
  run m (sentB j) (stage m) (result m) (fits m j h) ρ

end Banded

end Cert.KernelIdeal.Talk

end
-- ==== Proof.Ranks.lean ====
module

public import proofs.«01_k».proof.Proof.Counting
public import Idealize.ShloMosaic.Lib.SortFacts
public import Idealize.ShloMosaic.Lib.SortPrefix

/-! # Ranks

Where a stable sort of zeros and ones puts each position: a zero at the number of zeros before it, a one at the number of zeros
plus the number of ones before it. -/

@[expose] public section

noncomputable section

namespace Cert.Counting

open Idealize.ShloMosaic Idealize.ShloMosaic.ValueIdx

/-! ## Counting before a position -/

section Pred

variable {n : ℕ} (p : Fin n → Prop) [DecidablePred p]

/-- How many positions before `k` have the property. -/
def prior (k : ℕ) : ℕ := (Finset.univ.filter fun i : Fin n => i.val < k ∧ p i).card

theorem prior_mono {a b : ℕ} (h : a ≤ b) : prior p a ≤ prior p b :=
  Finset.card_le_card fun i hi => by
    simp only [Finset.mem_filter, Finset.mem_univ, true_and] at hi ⊢
    exact ⟨lt_of_lt_of_le hi.1 h, hi.2⟩

theorem prior_lt {i : Fin n} {k : ℕ} (h : i.val < k) (hi : p i) : prior p i.val < prior p k :=
  Finset.card_lt_card <| Finset.ssubset_iff_of_subset (fun l hl => by
    simp only [Finset.mem_filter, Finset.mem_univ, true_and] at hl ⊢
    exact ⟨hl.1.trans h, hl.2⟩) |>.2 ⟨i, by simp [h, hi], by simp⟩

theorem prior_all : prior p n = (Finset.univ.filter p).card := by
  unfold prior; congr 1; ext i; simp [i.isLt]

theorem prior_le_all (k : ℕ) : prior p k ≤ (Finset.univ.filter p).card :=
  Finset.card_le_card fun i hi => by
    simp only [Finset.mem_filter, Finset.mem_univ, true_and] at hi ⊢; exact hi.2

/-- With the property or without it. -/
theorem prior_add (k : ℕ) (hk : k ≤ n) : prior p k + prior (fun i => ¬ p i) k = k := by
  unfold prior
  rw [← Finset.card_union_of_disjoint (Finset.disjoint_left.2 fun i h h' => by
    simp only [Finset.mem_filter, Finset.mem_univ, true_and] at h h'; exact h'.2 h.2)]
  rw [show (Finset.univ.filter fun i : Fin n => i.val < k ∧ p i) ∪ (Finset.univ.filter fun i : Fin n => i.val < k ∧ ¬ p i)
      = Finset.univ.filter fun i : Fin n => i.val < k from by
    ext i; simp only [Finset.mem_union, Finset.mem_filter, Finset.mem_univ, true_and]; tauto]
  have e : (Finset.univ.filter fun i : Fin n => i.val < k) = (Finset.univ : Finset (Fin k)).map (Fin.castLEEmb hk) := by
    ext i; simp only [Finset.mem_filter, Finset.mem_univ, true_and, Finset.mem_map]
    constructor
    · intro h; exact ⟨⟨i.val, h⟩, Fin.ext rfl⟩
    · rintro ⟨l, rfl⟩; exact l.isLt
  rw [e, Finset.card_map, Finset.card_univ, Fintype.card_fin]

theorem prior_succ (i : Fin n) : prior p (i.val + 1) = prior p i.val + if p i then 1 else 0 := by
  unfold prior
  by_cases h : p i
  · rw [if_pos h, show (Finset.univ.filter fun l : Fin n => l.val < i.val + 1 ∧ p l)
        = insert i (Finset.univ.filter fun l : Fin n => l.val < i.val ∧ p l) from by
      ext l; simp only [Finset.mem_filter, Finset.mem_univ, true_and, Finset.mem_insert]
      constructor
      · rintro ⟨h1, h2⟩
        by_cases e : l = i
        · exact Or.inl e
        · have : l.val ≠ i.val := fun h => e (Fin.ext h)
          exact Or.inr ⟨by omega, h2⟩
      · rintro (rfl | ⟨h1, h2⟩)
        · exact ⟨by omega, h⟩
        · exact ⟨by omega, h2⟩]
    rw [Finset.card_insert_of_notMem (by simp)]
  · rw [if_neg h, add_zero]
    refine congrArg Finset.card (Finset.ext fun l => ?_)
    simp only [Finset.mem_filter, Finset.mem_univ, true_and]
    constructor
    · rintro ⟨h1, h2⟩
      have : l ≠ i := fun e => h (e ▸ h2)
      have : l.val ≠ i.val := fun h => this (Fin.ext h)
      exact ⟨by omega, h2⟩
    · rintro ⟨h1, h2⟩; exact ⟨by omega, h2⟩

end Pred

/-! ## The place of a position -/

section Place

variable {n : ℕ} (f : Fin n → BitVec 32)

/-- The zeros before a position. -/
abbrev zb (k : ℕ) : ℕ := prior (fun i => f i = 0#32) k
/-- The others before a position. -/
abbrev nb (k : ℕ) : ℕ := prior (fun i => ¬ f i = 0#32) k

theorem zb_all : zb f n = zer f := prior_all _

/-- Where the stable sort puts position `i`. -/
def place (i : Fin n) : ℕ := if f i = 0#32 then zb f i.val else zer f + nb f i.val

theorem place_zero {i : Fin n} (h : f i = 0#32) : place f i = zb f i.val := if_pos h
theorem place_one {i : Fin n} (h : ¬ f i = 0#32) : place f i = zer f + nb f i.val := if_neg h

theorem zb_lt {i : Fin n} (h : f i = 0#32) : zb f i.val < zer f := by
  rw [← zb_all]; exact prior_lt _ i.isLt h

theorem place_lt (i : Fin n) : place f i < n := by
  by_cases h : f i = 0#32
  · rw [place_zero f h]; exact lt_of_lt_of_le (zb_lt f h) (zer_le f)
  · rw [place_one f h]
    have h1 : nb f i.val < nb f n := prior_lt _ i.isLt h
    have h2 : zb f n + nb f n = n := prior_add (fun i => f i = 0#32) n le_rfl
    rw [zb_all] at h2; omega

theorem place_inj : Function.Injective (place f) := by
  have key : ∀ i j : Fin n, i.val < j.val → place f i ≠ place f j := by
    intro i j hij h
    by_cases hi : f i = 0#32 <;> by_cases hj : f j = 0#32
    · rw [place_zero f hi, place_zero f hj] at h
      have : zb f i.val < zb f j.val := prior_lt _ hij hi
      omega
    · rw [place_zero f hi, place_one f hj] at h
      have := zb_lt f hi; omega
    · rw [place_one f hi, place_zero f hj] at h
      have := zb_lt f hj; omega
    · rw [place_one f hi, place_one f hj] at h
      have : nb f i.val < nb f j.val := prior_lt _ hij hi
      omega
  intro i j h
  rcases Nat.lt_trichotomy i.val j.val with hlt | he | hgt
  · exact absurd h (key i j hlt)
  · exact Fin.ext he
  · exact absurd h.symm (key j i hgt)

end Place

/-! ## The stable sort -/

/-- By word, then by position. -/
def lexB {n : ℕ} (f : Fin n → BitVec 32) (a b : Fin n) : Bool := (f a).slt (f b) || (decide (f a = f b) && decide (a < b))

theorem lexB_total {n : ℕ} (f : Fin n → BitVec 32) : StrictTotalBefore (lexB f) :=
  StrictTotalBefore.of_key_then_position (fun a b : BitVec 32 => a.slt b) f
    (fun a => by simp [BitVec.slt])
    (fun a b c h1 h2 => by rw [BitVec.slt_iff_toInt_lt] at *; omega)
    (fun a b => by
      rcases lt_trichotomy a.toInt b.toInt with h | h | h
      · left; rw [BitVec.slt_iff_toInt_lt]; exact h
      · right; left; exact BitVec.eq_of_toInt_eq h
      · right; right; rw [BitVec.slt_iff_toInt_lt]; exact h)

/-- On positions in order, sorting by the word alone breaks ties by position. -/
theorem stableSort_lex {n : ℕ} (f : Fin n → BitVec 32) (l : List (Fin n)) (hl : l.Pairwise (· < ·)) :
    stableSort (fun a b => (f a).slt (f b)) l = stableSort (lexB f) l := by
  induction l with
  | nil => rfl
  | cons a l ih =>
    rw [List.pairwise_cons] at hl
    unfold stableSort
    rw [ih hl.2]
    refine insertBefore_congr _ _ a _ fun b hb => ?_
    have hb' : a < b := hl.1 b ((perm_stableSort _ l).mem_iff.mp hb)
    unfold lexB
    rw [decide_eq_false (show ¬ b < a from fun h => absurd (h.trans hb') (lt_irrefl _)), Bool.and_false, Bool.or_false]

/-- The position that the stable sort puts at `k`. -/
abbrev putAt {n : ℕ} (f : Fin n → BitVec 32) (k : Fin n) : Fin n := sortedFrom (fun a b => (f a).slt (f b)) k

theorem from_eq {n : ℕ} (f : Fin n → BitVec 32) (k : Fin n) : putAt f k = sortedFrom (lexB f) k := by
  unfold putAt sortedFrom
  have e : sortPositions n (fun a b => (f a).slt (f b)) = sortPositions n (lexB f) :=
    stableSort_lex f _ (List.pairwise_lt_finRange n)
  rw [List.get_of_eq e]; rfl

/-- As many positions come before the one at `k` as `k` says. -/
theorem card_before {n : ℕ} (f : Fin n → BitVec 32) (k : Fin n) :
    (Finset.univ.filter fun q => lexB f q (sortedFrom (lexB f) k) = true).card = k.val := by
  have hB := lexB_total f
  have hinv : ∀ i j : Fin n, i < j → lexB f (sortedFrom (lexB f) j) (sortedFrom (lexB f) i) = false := fun i j hij =>
    sortedFrom_noInversion (lexB f) (lexB f) (fun a b h => hB.asymm a b h) (fun _ _ h => h) hB.negTrans i j hij
  have e : (Finset.univ.filter fun q => lexB f q (sortedFrom (lexB f) k) = true)
      = (Finset.univ.filter fun i : Fin n => i < k).map ⟨sortedFrom (lexB f), sortedFrom_injective _⟩ := by
    ext q
    simp only [Finset.mem_filter, Finset.mem_univ, true_and, Finset.mem_map, Function.Embedding.coeFn_mk]
    constructor
    · intro h
      obtain ⟨i, rfl⟩ := sortedFrom_surjective (lexB f) q
      refine ⟨i, ?_, rfl⟩
      by_contra hi
      rcases lt_or_eq_of_le (not_lt.1 hi) with hlt | heq
      · rw [hinv k i hlt] at h; exact absurd h (by decide)
      · subst heq; rw [hB.irrefl] at h; exact absurd h (by decide)
    · rintro ⟨i, hi, rfl⟩
      rcases hB.total (sortedFrom (lexB f) i) (sortedFrom (lexB f) k) (fun h => (ne_of_lt hi) (sortedFrom_injective _ h)) with h | h
      · exact h
      · rw [hinv i k hi] at h; exact absurd h (by decide)
  rw [e, Finset.card_map]
  have e2 : (Finset.univ.filter fun i : Fin n => i < k) = Finset.Iio k := by ext i; simp
  rw [e2, Fin.card_Iio]

/-- For zeros and ones, the positions before `i` are as many as its place says. -/
theorem card_lex {n : ℕ} (f : Fin n → BitVec 32) (hf : ∀ i, f i = 0#32 ∨ f i = 1#32) (i : Fin n) :
    (Finset.univ.filter fun q => lexB f q i = true).card = place f i := by
  rcases hf i with hi | hi
  · rw [place_zero f hi]
    unfold zb prior
    congr 1; ext q
    simp only [Finset.mem_filter, Finset.mem_univ, true_and, lexB, hi]
    rcases hf q with hq | hq <;> rw [hq] <;> simp
  · have hi' : ¬ f i = 0#32 := by rw [hi]; decide
    rw [place_one f hi']
    unfold zer nb prior
    rw [← Finset.card_union_of_disjoint (Finset.disjoint_left.2 fun q h h' => by
      simp only [Finset.mem_filter, Finset.mem_univ, true_and] at h h'; exact h'.2 h)]
    congr 1; ext q
    simp only [Finset.mem_filter, Finset.mem_univ, true_and, Finset.mem_union, lexB, hi]
    rcases hf q with hq | hq <;> rw [hq] <;> simp

/-- The position that the stable sort puts at `k` has place `k`. -/
theorem place_from {n : ℕ} (f : Fin n → BitVec 32) (hf : ∀ i, f i = 0#32 ∨ f i = 1#32) (k : Fin n) : place f (putAt f k) = k.val := by
  rw [from_eq, ← card_lex f hf, card_before]

/-! ## The halves of a table -/

section Halves

variable (a : IVec ⟨1, ![1024]⟩ 32)

/-- The whole table, by position. -/
abbrev whole (k : Fin 1024) : BitVec 32 := a (ix1 k)

/-- A position of a half in the whole table. -/
def inHalf (h : Fin 2) : Fin 512 ↪ Fin 1024 where
  toFun k := ⟨h.val * 512 + k.val, by omega⟩
  inj' k l e := by
    have e' : h.val * 512 + k.val = h.val * 512 + l.val := Fin.mk.inj_iff.1 e
    exact Fin.ext (by omega)

theorem half0_eq (k : Fin 512) : half a 0 k = whole a ⟨k.val, by omega⟩ := by
  unfold half whole
  congr 2
  exact Fin.ext (show 0 * 512 + k.val = k.val by omega)

/-- A count over the whole table up to a position of a half. -/
theorem prior_half (q : BitVec 32 → Prop) [DecidablePred q] (h : Fin 2) (i : ℕ) (hi : i ≤ 512) :
    prior (fun k => q (whole a k)) (h.val * 512 + i)
      = (if h = 0 then 0 else (Finset.univ.filter fun k => q (half a 0 k)).card) + prior (fun k => q (half a h k)) i := by
  have lower : prior (fun k => q (whole a k)) 512 = (Finset.univ.filter fun k => q (half a 0 k)).card := by
    unfold prior
    refine (Finset.card_bij (fun (k : Fin 512) _ => (⟨k.val, by omega⟩ : Fin 1024)) ?_ ?_ ?_).symm
    · intro k hk
      simp only [Finset.mem_filter, Finset.mem_univ, true_and, half0_eq] at hk ⊢
      exact ⟨k.isLt, hk⟩
    · intro k _ l _ e
      exact Fin.ext (Fin.mk.inj_iff.1 e)
    · intro k hk
      simp only [Finset.mem_filter, Finset.mem_univ, true_and] at hk
      refine ⟨⟨k.val, hk.1⟩, ?_, Fin.ext rfl⟩
      simp only [Finset.mem_filter, Finset.mem_univ, true_and, half0_eq]
      exact hk.2
  have split : prior (fun k => q (whole a k)) (h.val * 512 + i)
      = prior (fun k => q (whole a k)) (h.val * 512) + prior (fun k => q (half a h k)) i := by
    unfold prior
    have e : (Finset.univ.filter fun k : Fin 1024 => k.val < h.val * 512 + i ∧ q (whole a k))
        = (Finset.univ.filter fun k : Fin 1024 => k.val < h.val * 512 ∧ q (whole a k))
          ∪ (Finset.univ.filter fun k : Fin 512 => k.val < i ∧ q (half a h k)).map
              (inHalf h) := by
      ext k
      simp only [Finset.mem_filter, Finset.mem_univ, true_and, Finset.mem_union, Finset.mem_map]
      constructor
      · rintro ⟨h1, h2⟩
        by_cases hk : k.val < h.val * 512
        · exact Or.inl ⟨hk, h2⟩
        · refine Or.inr ⟨⟨k.val - h.val * 512, by omega⟩, ⟨show k.val - h.val * 512 < i by omega, ?_⟩,
            Fin.ext (show h.val * 512 + (k.val - h.val * 512) = k.val by omega)⟩
          unfold half
          have e : (⟨h.val * 512 + (k.val - h.val * 512), by omega⟩ : Fin 1024) = k :=
            Fin.ext (show h.val * 512 + (k.val - h.val * 512) = k.val by omega)
          simp only [e]; exact h2
      · rintro (⟨h1, h2⟩ | ⟨l, ⟨h1, h2⟩, rfl⟩)
        · exact ⟨by omega, h2⟩
        · exact ⟨show h.val * 512 + l.val < h.val * 512 + i by omega, h2⟩
    rw [e, Finset.card_union_of_disjoint, Finset.card_map]
    refine Finset.disjoint_left.2 fun k h1 h2 => ?_
    simp only [Finset.mem_filter, Finset.mem_univ, true_and, Finset.mem_map] at h1 h2
    obtain ⟨l, _, rfl⟩ := h2
    have : h.val * 512 + l.val < h.val * 512 := h1.1
    omega
  rw [split]; congr 1
  have : h = 0 ∨ h = 1 := by omega
  rcases this with rfl | rfl
  · rw [if_pos rfl]; unfold prior; simp
  · rw [if_neg (by decide), ← lower]; rfl

theorem zer_halves : zer (whole a) = zer (half a 0) + zer (half a 1) := by
  have := prior_half a (fun w => w = 0#32) 1 512 le_rfl
  rw [if_neg (by decide)] at this
  rw [← zb_all, ← zb_all (half a 1)]; exact this

/-- The positions that are not zero in a half. -/
theorem ones_half (h : Fin 2) : (Finset.univ.filter fun k => ¬ half a h k = 0#32).card = 512 - zer (half a h) := by
  have h1 := prior_add (fun k : Fin 512 => half a h k = 0#32) 512 le_rfl
  rw [prior_all, prior_all] at h1
  unfold zer; omega

/-- What the two devices of a pair need: from `i` in half `h`, the row of the whole result, told from its place in its half. -/
theorem place_half (tot : zer (whole a) = 512) (h : Fin 2) (i : Fin 512) :
    place (whole a) ⟨h.val * 512 + i.val, by omega⟩ =
      if half a h i = 0#32 then (if h = 0 then 0 else zer (half a 0)) + place (half a h) i
      else (if h = 0 then 512 + place (half a 0) i - zer (half a 0) else 512 + place (half a 1) i) := by
  have hz := prior_half a (fun w => w = 0#32) h i.val (by omega)
  have hn := prior_half a (fun w => ¬ w = 0#32) h i.val (by omega)
  have hs := zer_halves a
  have e : whole a ⟨h.val * 512 + i.val, by omega⟩ = half a h i := rfl
  by_cases c : half a h i = 0#32
  · rw [if_pos c, place_zero _ (e.trans c), place_zero _ c]; exact hz
  · rw [if_neg c, place_one _ (fun x => c (e.symm.trans x))]
    have : h = 0 ∨ h = 1 := by omega
    rcases this with rfl | rfl
    · rw [if_pos rfl, place_one _ c]
      rw [if_pos rfl] at hn
      unfold nb at *
      rw [hn]; omega
    · rw [if_neg (by decide), place_one _ c]
      rw [if_neg (by decide), ones_half] at hn
      have := zer_le (half a 0)
      unfold nb at *
      rw [hn]; omega

end Halves

end Cert.Counting

end
-- ==== Proof.IdealValue.lean ====
module

public import proofs.«01_k».proof.Proof.IdealCount
public import proofs.«01_k».proof.Proof.Ranks
public import Idealize.ShloMosaic.Lib.Pointwise
public import Idealize.ShloMosaic.PureOps.Ideal.Laws

/-! # The kernel's value

At exact numbers, a device's rows end at their places, and the result of a device is read row by row from the two halves of the
whole input. -/

@[expose] public section

noncomputable section

namespace Cert.KernelIdeal.Talk

open Idealize.ShloMosaic hiding ix0 ix1 ix2 ix3 eq_ix1 eq_ix2 eq_ix3
open Idealize.ShloMosaic.TcCoe Idealize.ShloMosaic.ValueIdx Idealize.ShloMosaic.StableHlo.Predicate
open Cert.KernelIdeal Cert.KernelIdeal.Gen Cert.Counting

/-- A test as a number: one where it holds, zero where not. -/
theorem bit_number (b : BitVec 1) : (FloatOps.sitofp FTy.f32 (BitVec.setWidth 32 b) : Ideal .f32) = if b = 1#1 then (1 : EReal) else 0 := by
  show (((BitVec.setWidth 32 b).toInt : ℝ) : EReal) = _
  have hb : b = 0#1 ∨ b = 1#1 := by revert b; decide
  rcases hb with rfl | rfl
  · rw [if_neg (by decide)]; simp
  · rw [if_pos rfl, show (BitVec.setWidth 32 1#1).toInt = 1 from by decide]; simp

/-- The sum of ones where a property holds is the number of places where it does. -/
theorem sum_ones {n : ℕ} (p : Fin n → Prop) [DecidablePred p] :
    (∑ i, if p i then (1 : EReal) else 0) = ((((Finset.univ.filter p).card : ℕ) : ℝ) : EReal) := by
  rw [Finset.sum_ite, Finset.sum_const_zero, add_zero, Finset.sum_const, nsmul_one]; rfl

theorem toInt_small {k : ℕ} (h : k < 2 ^ 31) : (BitVec.ofNat 32 k).toInt = (k : ℤ) := by
  rw [BitVec.toInt_eq_toNat_cond, BitVec.toNat_ofNat, Nat.mod_eq_of_lt (by omega), if_pos (by omega)]

theorem sle_ofNat {a b : ℕ} (ha : a < 512) (hb : b < 512) : IntOp.cmpi .sle (BitVec.ofNat 32 a) (BitVec.ofNat 32 b) = 1#1 ↔ a ≤ b := by
  show BitVec.ofBool ((BitVec.ofNat 32 a).sle (BitVec.ofNat 32 b)) = 1#1 ↔ _
  rw [ofBool_eq_one_iff, BitVec.sle_iff_toInt_le, toInt_small (by omega), toInt_small (by omega)]
  omega

theorem eq_bit (a b : BitVec 32) : IntOp.cmpi .eq a b = 1#1 ↔ a = b := by
  show BitVec.ofBool (a == b) = 1#1 ↔ _
  rw [ofBool_eq_one_iff, beq_iff_eq]

/-- The running count of zeros. -/
theorem running (d : Vec Ideal S1x512 .i32) (k : Fin 512) :
    k0_pay2 (F := Ideal) d (ix2 0 k) = ((((zb (row d) (k.val + 1) : ℕ)) : ℝ) : EReal) := by
  pointwise [k0_pay2, k0_pay1]
  refine Eq.trans (Finset.sum_congr rfl fun i _ => ?_) (sum_ones fun i : Fin 512 => i.val < k.val + 1 ∧ row d i = 0#32)
  rw [bit_number, bit_number]
  simp only [eq_bit]
  rw [if_congr (sle_ofNat i.isLt k.isLt) rfl rfl]
  show (if row d i = 0#32 then (1 : EReal) else 0) * (if i.val ≤ k.val then (1 : EReal) else 0) = _
  by_cases h1 : row d i = 0#32
  · rw [if_pos h1, one_mul]
    exact if_congr ⟨fun h => ⟨by omega, h1⟩, fun h => by omega⟩ rfl rfl
  · rw [if_neg h1, zero_mul, if_neg fun h => h1 h.2]

theorem number_small {k : ℕ} (h : k < 2 ^ 31) : (FloatOps.sitofp FTy.f32 (BitVec.ofNat 32 k) : Ideal .f32) = ((k : ℝ) : EReal) := by
  show (((BitVec.ofNat 32 k).toInt : ℝ) : EReal) = _
  rw [toInt_small h]; simp

/-- The running count of the others. -/
theorem running' (d : Vec Ideal S1x512 .i32) (k : Fin 512) :
    k0_pay3 (F := Ideal) d (ix2 0 k) = (((k.val : ℝ) + 1 - ((zb (row d) (k.val + 1) : ℕ) : ℝ) : ℝ) : EReal) := by
  pointwise [k0_pay3]
  rw [running]
  refine Eq.trans (congrArg (fun e : EReal => e + 1 - ((((zb (row d) (k.val + 1) : ℕ)) : ℝ) : EReal)) (number_small (k := k.val) (by omega))) ?_
  rw [EReal.coe_sub, EReal.coe_add, EReal.coe_one]

/-- A natural number, as a word. -/
theorem word_of_number {k : ℕ} (h : k < 2 ^ 31) : (FloatOps.fptosi (F := Ideal) (φ := .f32) 32 ((k : ℝ) : EReal)) = BitVec.ofNat 32 k := by
  show BitVec.ofInt 32 (Ideal.toIntClamped (-(2 ^ (32 - 1) : Nat)) ((2 ^ (32 - 1) : Nat) - 1) ((k : ℝ) : EReal)) = _
  have e : Ideal.toIntClamped (-(2 ^ (32 - 1) : Nat)) ((2 ^ (32 - 1) : Nat) - 1) ((k : ℝ) : EReal) = (k : ℤ) := by
    show max _ (min _ (if (0 : ℝ) ≤ (k : ℝ) then ⌊(k : ℝ)⌋ else ⌈(k : ℝ)⌉)) = _
    rw [if_pos (Nat.cast_nonneg k), Int.floor_natCast]
    push_cast
    omega
  rw [e]; rfl

/-- A permutation of the rows by ones in the place of each: the row that goes to a place is found there. -/
theorem picked (v21 : IVec S1x512 1) (v31 v36 : FVec Ideal S1x512 .f32) (v38 : IVec S1x1x512 32) (x : Vec Ideal S512x256 .bf16)
    (t : Fin 512 → ℕ) (hb : ∀ i, t i < 512) (hi : Function.Injective t)
    (ht : ∀ i : Fin 512, FloatOps.fptosi (F := Ideal) (φ := .f32) 32 (Scalar.select (v21 (ix2 0 i)) ((v31 (ix2 0 i) : EReal) - 1)
      ((v36 (ix2 0 i) : EReal) - 1 + (((extractAt ![0, 0, 0] (k0_pay5 v38) inpos_S1x1x1_p0_0_0).toInt : ℝ) : EReal))) = BitVec.ofNat 32 (t i))
    (i₀ : Fin 512) (q : Fin 256) :
    k0_pay6 v21 rowsI v31 v36 v38 x (ix2 ⟨t i₀, hb i₀⟩ q) = x (ix2 i₀ q) := by
  generalize hn : extractAt ![0, 0, 0] (k0_pay5 v38) inpos_S1x1x1_p0_0_0 = n at ht
  unfold k0_pay6
  rw [hn]
  pointwise []
  have term : ∀ i : Fin 512, (FloatOps.sitofp FTy.f32 (BitVec.setWidth 32 (IntOp.cmpi .eq (BitVec.ofNat 32 (t i)) (BitVec.ofNat 32 (t i₀)))) : Ideal .f32)
      = if i = i₀ then (1 : EReal) else 0 := fun i => by
    rw [bit_number]
    refine if_congr ((eq_bit _ _).trans ⟨fun h => hi ?_, fun h => by rw [h]⟩) rfl rfl
    have h' := congrArg BitVec.toNat h
    rw [BitVec.toNat_ofNat, BitVec.toNat_ofNat] at h'
    have := hb i; have := hb i₀; omega
  refine (Finset.sum_congr rfl fun i _ => ?_).trans ((Finset.sum_eq_single i₀ (f := fun i => (if i = i₀ then (1 : EReal) else 0) * (x (ix2 i q) : EReal)) ?_ ?_).trans ?_)
  · refine congrArg₂ (fun a b : EReal => a * b) ?_ rfl
    refine Eq.trans ?_ (term i)
    exact congrArg (fun w => (FloatOps.sitofp FTy.f32 (BitVec.setWidth 32 (IntOp.cmpi .eq w (BitVec.ofNat 32 (t i₀)))) : Ideal .f32)) (ht i)
  · intro i _ h; rw [if_neg h, zero_mul]
  · intro h; exact absurd (Finset.mem_univ _) h
  · rw [if_pos rfl, one_mul]

/-- The rows of one device in order: each at its place. -/
theorem sorted_at (d : Vec Ideal S1x512 .i32) (x : Vec Ideal S512x256 .bf16) (i : Fin 512) (q : Fin 256) :
    sortedA d x (ix2 ⟨place (row d) i, place_lt _ i⟩ q) = x (ix2 i q) := by
  refine picked _ _ _ _ x (place (row d)) (place_lt _) (place_inj _) (fun k => ?_) i q
  have hz : zer (row d) ≤ 512 := zer_le _
  have hs : zb (row d) (k.val + 1) = _ := prior_succ (fun i => row d i = 0#32) k
  have ha : zb (row d) k.val + Counting.nb (row d) k.val = k.val := prior_add (fun i => row d i = 0#32) k.val (by omega)
  have hc : (extractAt ![0, 0, 0] (k0_pay5 (k0_pay4 (F := Ideal) d)) inpos_S1x1x1_p0_0_0).toInt = (zer (row d) : ℤ) := by
    rw [show extractAt ![0, 0, 0] (k0_pay5 (k0_pay4 (F := Ideal) d)) inpos_S1x1x1_p0_0_0 = _ from cnt_eq d]
    exact toInt_small (by omega)
  rw [hc, running, running']
  have hp : place (row d) k < 2 ^ 31 := lt_of_lt_of_le (place_lt _ k) (by norm_num)
  refine Eq.trans (congrArg _ ?_) (word_of_number hp)
  have hbit : k0_pay1 (F := Ideal) d (ix2 0 k) = 1#1 ↔ row d k = 0#32 := by
    rw [← eq_bit]
    have e : k0_pay1 (F := Ideal) d (ix2 0 k) = IntOp.cmpi .eq (row d k) 0#32 := by
      pointwise [k0_pay1]
      rfl
    rw [e]
  by_cases h : row d k = 0#32
  · rw [if_pos h] at hs
    rw [place_zero _ h]
    refine Eq.trans (if_pos (hbit.2 h)) ?_
    rw [hs, ← EReal.coe_one, ← EReal.coe_sub]
    congr 1; push_cast; ring
  · rw [if_neg h] at hs
    rw [place_one _ h]
    refine Eq.trans (if_neg (fun e => h (hbit.1 e))) ?_
    rw [hs, ← EReal.coe_one, ← EReal.coe_sub, ← EReal.coe_add]
    congr 1
    have : ((zb (row d) k.val : ℕ) : ℝ) + ((Counting.nb (row d) k.val : ℕ) : ℝ) = (k.val : ℝ) := by exact_mod_cast ha
    push_cast
    linarith

/-- Which device of the pair of `c` holds half `h`. -/
def holder (c : Dev nD) (h : Fin 2) : Dev nD := if h = yOf c then c else pr c

theorem yOf_holder (c : Dev nD) (h : Fin 2) : yOf (holder c h) = h := by revert c h; decide

/-- The rows a device sends, in order. -/
theorem stage_at (m : (ℓ : Loc nD τ sig) → Buf (Elt Ideal) ℓ) (a : IVec ⟨1, ![1024]⟩ 32) (ha : ∀ c : Dev nD, m (c.tc.loc main_arg1) = a) (c : Dev nD)
    (i : Fin 512) (q : Fin 256) (r : Fin 512) (hr : r.val = place (half a (yOf c)) i) :
    stage m c (ix2 r q) = xAt m c (ix2 i q) ∧ sortedA (dAt m c) (xAt m c) (ix2 r q) = xAt m c (ix2 i q) := by
  have e : sortedA (dAt m c) (xAt m c) (ix2 r q) = xAt m c (ix2 i q) := by
    have h := sorted_at (dAt m c) (xAt m c) i q
    have hrow : row (dAt m c) = half a (yOf c) := (row_dAt m c).trans (by rw [ha])
    rw [← h]
    congr 2
    exact Fin.ext (by rw [hr, hrow])
  refine ⟨?_, e⟩
  rw [← e]
  show shapeCast S512x256 (sortedA (dAt m c) (xAt m c)) shapeCasts_S512x256_S512x256 (ix2 r q) = _
  rw [shapeCast_id]

/-- **The result of a device**: the row that the whole table sends to row `R` of the whole result is found there. -/
theorem result_at (m : (ℓ : Loc nD τ sig) → Buf (Elt Ideal) ℓ) (a : IVec ⟨1, ![1024]⟩ 32) (ha : ∀ c : Dev nD, m (c.tc.loc main_arg1) = a)
    (tot : zer (whole a) = 512) (c : Dev nD) (h : Fin 2) (i r : Fin 512) (q : Fin 256)
    (hr : place (whole a) ⟨h.val * 512 + i.val, by omega⟩ = (yOf c).val * 512 + r.val) :
    result m c (ix2 r q) = xAt m (holder c h) (ix2 i q) := by
  have hrow : row (dAt m c) = half a (yOf c) := (row_dAt m c).trans (by rw [ha])
  have hs := zer_halves a
  rw [tot] at hs
  have hp := place_half a tot h i
  rw [hr] at hp
  have hlt := place_lt (half a h) i
  have hzero : half a h i = 0#32 → place (half a h) i < zer (half a h) := fun e => by rw [place_zero _ e]; exact zb_lt _ e
  have hone : ¬ half a h i = 0#32 → zer (half a h) ≤ place (half a h) i := fun e => by rw [place_one _ e]; omega
  have own : yOf c = h → (yOf c = 0 ↔ r.val < zer (half a (yOf c))) → r.val = place (half a h) i →
      result m c (ix2 r q) = xAt m (holder c h) (ix2 i q) := fun e hc hv => by
    unfold result
    rw [merged_apply, hrow, if_pos hc]
    have := (stage_at m a ha c i q r (by rw [hv, e])).2
    rw [this]; unfold holder; rw [if_pos e.symm]
  have other : yOf c = 1 - h → ¬ (yOf c = 0 ↔ r.val < zer (half a (yOf c))) → (r.val + 512 - zer (half a (yOf c))) % 512 = place (half a h) i →
      result m c (ix2 r q) = xAt m (holder c h) (ix2 i q) := fun e hc hv => by
    have eh : yOf (pr c) = h := by rw [yOf_pr, e]; omega
    have ne : ¬ h = yOf c := by omega
    unfold result
    rw [merged_apply, hrow, if_neg hc]
    rw [(stage_at m a ha (pr c) i q _ (by rw [eh]; exact hv)).1]
    unfold holder; rw [if_neg ne]
  have cy : yOf c = 0 ∨ yOf c = 1 := by omega
  have ch : h = 0 ∨ h = 1 := by omega
  have hrl := r.isLt
  by_cases hb : half a h i = 0#32
  · rw [if_pos hb] at hp
    have hz := hzero hb
    rcases cy with ey | ey <;> rcases ch with rfl | rfl <;> rw [ey] at hp own other
    · replace hp : 0 * 512 + r.val = 0 + place (half a 0) i := hp
      exact own rfl (iff_of_true rfl (by omega)) (by omega)
    · replace hp : 0 * 512 + r.val = zer (half a 0) + place (half a 1) i := hp
      exact other (by decide) (fun e => absurd (e.1 rfl) (by omega)) (by omega)
    · replace hp : 1 * 512 + r.val = 0 + place (half a 0) i := hp
      omega
    · replace hp : 1 * 512 + r.val = zer (half a 0) + place (half a 1) i := hp
      omega
  · rw [if_neg hb] at hp
    have hz := hone hb
    rcases cy with ey | ey <;> rcases ch with rfl | rfl <;> rw [ey] at hp own other
    · replace hp : 0 * 512 + r.val = 512 + place (half a 0) i - zer (half a 0) := hp
      omega
    · replace hp : 0 * 512 + r.val = 512 + place (half a 1) i := hp
      omega
    · replace hp : 1 * 512 + r.val = 512 + place (half a 0) i - zer (half a 0) := hp
      exact other (by decide) (fun e => absurd (e.2 (by omega)) (by decide)) (by omega)
    · replace hp : 1 * 512 + r.val = 512 + place (half a 1) i := hp
      exact own rfl (iff_of_false (by decide) (by omega)) (by omega)

end Cert.KernelIdeal.Talk
end
-- ==== Proof.RefValue.lean ====
module

public import proofs.«01_k».proof.Proof.Gen.ReferenceIdeal.Run
public import proofs.«01_k».proof.Proof.Ranks
public import Idealize.ShloMosaic.Lib.Routing.Ops
public import Idealize.ShloMosaic.PureOps.Ideal.Laws

/-! # The reference's value

The reference takes the rows in the order of a stable sort of their destinations: row `R` of its result is the row at the position
that the sort puts at `R`. -/

@[expose] public section

noncomputable section

namespace Cert.ReferenceIdeal.Order

open Idealize.ShloMosaic Idealize.ShloMosaic.TcCoe Idealize.ShloMosaic.ValueIdx
open Cert.ReferenceIdeal Cert.ReferenceIdeal.Gen Cert.Counting

/-- The order of the sort. -/
abbrev order (a : IVec S1024 32) : IVec S1024 32 := (Host.sort2 S1024 0 comparator_i32_i32_d0 a (iotaInDim S1024 32 0)).2

theorem order_at (a : IVec S1024 32) (R : Fin 1024) : order a (ix1 R) = BitVec.ofNat 32 (putAt (whole a) R).val := by
  have hd : 0 < S1024.rank := Nat.zero_lt_one
  have e : ∀ (j : S1024.Idx) (c : Fin 1024), j.along (⟨0, hd⟩ : Fin S1024.rank) c = ix1 c := fun j c =>
    (Shape.Idx.along_rank1 j c).trans (funext fun b => by fin_cases b; rfl)
  have hsrc : sortedFrom (n := 1024)
      (fun u v : Fin 1024 => comparator_i32_i32_d0 (a ((ix1 R).along ⟨0, hd⟩ u), iotaInDim S1024 32 0 ((ix1 R).along ⟨0, hd⟩ u))
          (a ((ix1 R).along ⟨0, hd⟩ v), iotaInDim S1024 32 0 ((ix1 R).along ⟨0, hd⟩ v)) == 1#1) R = putAt (whole a) R := by
    unfold putAt
    congr 1
    funext u v
    rw [e, e]
    show (BitVec.ofBool ((a (ix1 u)).slt (a (ix1 v))) == 1#1) = (a (ix1 u)).slt (a (ix1 v))
    cases (a (ix1 u)).slt (a (ix1 v)) <;> rfl
  show (Host.sort2 S1024 0 comparator_i32_i32_d0 a (iotaInDim S1024 32 0)).2 (ix1 R) = _
  unfold Host.sort2
  rw [dif_pos hd]
  refine (congrArg (fun c : Fin 1024 => iotaInDim S1024 32 0 ((ix1 R).along ⟨0, hd⟩ c)) hsrc).trans ((congrArg (iotaInDim S1024 32 0) (e _ _)).trans ?_)
  rfl

/-- The rows that an order names, as the gather reads them: a negative number would count from the end. -/
abbrev named (o : IVec S1024 32) : IVec S1024x1 32 :=
  broadcastInDim S1024x1 ![0] bcast_S1024_S1024x1_0 (select (cmpi .slt o (broadcastInDim S1024 ![] bcast_S_S1024 (constantI S_ 32 0#32))) (addi o (broadcastInDim S1024 ![] bcast_S_S1024 (constantI S_ 32 1024#32))) o)

theorem named_at (o : IVec S1024 32) (R : Fin 1024) (h : (o (ix1 R)).toNat < 1024) : named o (ix2 R 0) = o (ix1 R) := by
  have hlt : ∀ w : BitVec 32, w.toNat < 1024 → Scalar.select (IntOp.cmpi .slt w 0#32) (w + 1024#32) w = w := fun w hw => by
    refine if_neg ?_
    show ¬ BitVec.ofBool (w.slt 0#32) = 1#1
    rw [show w.slt 0#32 = false from by
      rw [← Bool.not_eq_true, BitVec.slt_iff_toInt_lt, BitVec.toInt_eq_toNat_cond, if_pos (by omega)]
      show ¬ ((w.toNat : ℤ) < 0); omega]
    decide
  have hix : ∀ v : IVec S1024 32, (broadcastInDim S1024x1 ![0] bcast_S1024_S1024x1_0 v) (ix2 R (0 : Fin 1)) = v (ix1 R) := fun v => by
    refine congrArg v (funext fun b => ?_)
    fin_cases b; rfl
  exact (hix _).trans (hlt _ h)

/-- The reference's result. -/
abbrev taken (X : FVec Ideal S1024x256 .bf16) (a : IVec S1024 32) : FVec Ideal S1024x256 .bf16 :=
  Host.gather gather_S1024x256_S1024x1_S1024x256_1_0_n_n_0_1_1256 X (named (order a))

theorem taken_at (X : FVec Ideal S1024x256 .bf16) (a : IVec S1024 32) (R : Fin 1024) (q : Fin 256) :
    taken X a (ix2 R q) = X (ix2 (putAt (whole a) R) q) := by
  have h := order_at a R
  unfold taken
  generalize order a = o at h ⊢
  generalize putAt (whole a) R = p at h ⊢
  have hn : (o (ix1 R)).toNat < 1024 := by rw [h, BitVec.toNat_ofNat]; have := p.isLt; omega
  exact Routing.gather_row gather_S1024x256_S1024x1_S1024x256_1_0_n_n_0_1_1256 rfl rfl rfl rfl rfl X _ R q p
    ((named_at o R hn).trans h) (by norm_num)

end Cert.ReferenceIdeal.Order

end
-- ==== Proof.Bands.lean ====
module

public import proofs.«01_k».proof.Proof.Counting
public import proofs.«01_k».proof.Pre_band0
public import proofs.«01_k».proof.Pre_even0_KernelIdeal
public import proofs.«01_k».proof.Pre_even0_ReferenceIdeal
public import proofs.«01_k».proof.Pre_band1
public import proofs.«01_k».proof.Pre_even1_KernelIdeal
public import proofs.«01_k».proof.Pre_even1_ReferenceIdeal
public import proofs.«01_k».proof.Pre_band2
public import proofs.«01_k».proof.Pre_even2_KernelIdeal
public import proofs.«01_k».proof.Pre_even2_ReferenceIdeal
public import proofs.«01_k».proof.Pre_band3
public import proofs.«01_k».proof.Pre_even3_KernelIdeal
public import proofs.«01_k».proof.Pre_even3_ReferenceIdeal
public import proofs.«01_k».proof.Pre_band4
public import proofs.«01_k».proof.Pre_even4_KernelIdeal
public import proofs.«01_k».proof.Pre_even4_ReferenceIdeal

/-! # The preconditions

The shape facts of the ten preconditions, and what each says of the table of destinations: its band, and for the second five
also that half of the destinations are 0 and the others 1. -/

@[expose] public section

noncomputable section

namespace Cert.Counting

open Idealize.ShloMosaic
open Idealize.ShloMosaic.ValueIdx Idealize.ShloMosaic.StableHlo.Predicate

/-- Every destination is 0 or 1, and 512 of the 1024 are 0. -/
structure Even (a : IVec ⟨1, ![1024]⟩ 32) : Prop where
  bits : ∀ k : Fin 1024, a (ix1 k) = 0#32 ∨ a (ix1 k) = 1#32
  total : zer (fun k : Fin 1024 => a (ix1 k)) = 512

theorem bit_of (w : BitVec 32) (h0 : IntOp.cmpi .sge w 0#32 = 1#1) (h1 : IntOp.cmpi .sle w 1#32 = 1#1) : w = 0#32 ∨ w = 1#32 := by
  have h0' : (0#32).sle w = true := (ofBool_eq_one_iff _).1 h0
  have h1' : w.sle 1#32 = true := (ofBool_eq_one_iff _).1 h1
  rw [BitVec.sle_iff_toInt_le] at h0' h1'
  have e0 : (0#32).toInt = 0 := rfl
  have e1 : (1#32).toInt = 1 := rfl
  rw [e0] at h0'; rw [e1] at h1'
  have : w.toInt = 0 ∨ w.toInt = 1 := by omega
  rcases this with h | h
  · left; exact BitVec.eq_of_toInt_eq h
  · right; exact BitVec.eq_of_toInt_eq h

theorem bit_word (w : BitVec 32) (h : w = 0#32 ∨ w = 1#32) : w = (IntOp.cmpi .eq w 1#32).setWidth 32 := by
  rcases h with rfl | rfl <;> decide

/-- A table of zeros and ones that sums to 512 has 512 zeros. -/
theorem even_of (a : IVec ⟨1, ![1024]⟩ 32) (hr : (⟨1, ![1024]⟩ : Shape).ReducesTo [0] ⟨0, ![]⟩) (hu : 0 < (⟨0, ![]⟩ : Shape).numel)
    (h0 : ∀ k : Fin 1024, IntOp.cmpi .sge (a (ix1 k)) 0#32 = 1#1) (h1 : ∀ k : Fin 1024, IntOp.cmpi .sle (a (ix1 k)) 1#32 = 1#1)
    (j : (⟨0, ![]⟩ : Shape).Idx)
    (hs : IntOp.cmpi .eq (Host.reduce IntOp.addi a (constantI ⟨0, ![]⟩ 32 0#32) hr hu j) 512#32 = 1#1) : Even a := by
  have hb := fun k => bit_of _ (h0 k) (h1 k)
  refine ⟨hb, ?_⟩
  rw [cmpi_eq_iff] at hs
  have hs := (reduce_all a (constantI ⟨0, ![]⟩ 32 0#32) hr hu j fun _ => rfl).symm.trans hs
  rw [Finset.fold_congr (g := fun k : Fin 1024 => (IntOp.cmpi .eq (a (ix1 k)) 1#32).setWidth 32) fun k _ => bit_word _ (hb k),
    IndicatorCount.fold_addi_setWidth_eq_card] at hs
  have hc : (Finset.univ.filter fun k : Fin 1024 => a (ix1 k) = 1#32).card = 512 := by
    have hle : (Finset.univ.filter fun k : Fin 1024 => a (ix1 k) = 1#32).card ≤ 1024 := (Finset.card_le_univ _).trans (by simp)
    simp only [cmpi_eq_iff] at hs
    have := congrArg BitVec.toNat hs
    rw [BitVec.toNat_ofNat, BitVec.toNat_ofNat] at this
    omega
  have hsplit := Finset.card_filter_add_card_filter_not (s := (Finset.univ : Finset (Fin 1024))) (fun k => a (ix1 k) = 1#32)
  have hz : (Finset.univ.filter fun k : Fin 1024 => ¬ a (ix1 k) = 1#32) = Finset.univ.filter fun k : Fin 1024 => a (ix1 k) = 0#32 := by
    ext k; simp only [Finset.mem_filter, Finset.mem_univ, true_and]
    rcases hb k with h | h <;> rw [h] <;> decide
  rw [hz, hc, Finset.card_univ, Fintype.card_fin] at hsplit
  show (Finset.univ.filter fun k : Fin 1024 => a (ix1 k) = 0#32).card = 512
  omega

/-- The printed count of one half's zeros. -/
abbrev printed (a : IVec ⟨1, ![1024]⟩ 32) (o : ℕ) (hb : (⟨0, ![]⟩ : Shape).BroadcastsInDim ⟨1, ![1024]⟩ ![])
    (hs : (⟨1, ![1024]⟩ : Shape).Slices ![o] ⟨1, ![512]⟩) (hr : (⟨1, ![512]⟩ : Shape).ReducesTo [0] ⟨0, ![]⟩)
    (hu : 0 < (⟨0, ![]⟩ : Shape).numel) : IVec ⟨0, ![]⟩ 32 :=
  Host.reduce IntOp.addi (extractStridedSlice ⟨1, ![512]⟩ ![o] (select (cmpi .eq a (broadcastInDim ⟨1, ![1024]⟩ ![] hb (constantI ⟨0, ![]⟩ 32 0#32)))
      (broadcastInDim ⟨1, ![1024]⟩ ![] hb (constantI ⟨0, ![]⟩ 32 1#32)) (broadcastInDim ⟨1, ![1024]⟩ ![] hb (constantI ⟨0, ![]⟩ 32 0#32))) hs)
      (constantI ⟨0, ![]⟩ 32 0#32) hr hu

/-- The band from the printed comparisons. -/
theorem band_printed (j : ℕ) (hj : j ≤ 4) (a : IVec ⟨1, ![1024]⟩ 32) (w0 w1 w2 w3 : BitVec 32) (hb : (⟨0, ![]⟩ : Shape).BroadcastsInDim ⟨1, ![1024]⟩ ![])
    (hs0 : (⟨1, ![1024]⟩ : Shape).Slices ![0] ⟨1, ![512]⟩) (hs1 : (⟨1, ![1024]⟩ : Shape).Slices ![512] ⟨1, ![512]⟩)
    (hr : (⟨1, ![512]⟩ : Shape).ReducesTo [0] ⟨0, ![]⟩) (hu : 0 < (⟨0, ![]⟩ : Shape).numel)
    (k0 : w0.toInt = 128 * j) (k1 : w1.toInt = 128 * j + 128) (k2 : w2.toInt = 384 - 128 * j) (k3 : w3.toInt = 512 - 128 * j)
    (h0 : cmpi .sge (printed a 0 hb hs0 hr hu) (constantI ⟨0, ![]⟩ 32 w0) = fun _ => 1#1)
    (h1 : cmpi .slt (printed a 0 hb hs0 hr hu) (constantI ⟨0, ![]⟩ 32 w1) = fun _ => 1#1)
    (h2 : cmpi .sgt (printed a 512 hb hs1 hr hu) (constantI ⟨0, ![]⟩ 32 w2) = fun _ => 1#1)
    (h3 : cmpi .sle (printed a 512 hb hs1 hr hu) (constantI ⟨0, ![]⟩ 32 w3) = fun _ => 1#1) : Band j a :=
  band_of j hj a w0 w1 w2 w3 (printed a 0 hb hs0 hr hu ix0) (printed a 512 hb hs1 hr hu ix0)
    (count_half a 0 0 rfl hb hs0 hr hu ix0) (count_half a 1 512 rfl hb hs1 hr hu ix0) k0 k1 k2 k3
    (congrFun h0 ix0) (congrFun h1 ix0) (congrFun h2 ix0) (congrFun h3 ix0)

/-- Half zeros and half ones from the printed comparisons. -/
theorem even_printed (a : IVec ⟨1, ![1024]⟩ 32) (hb : (⟨0, ![]⟩ : Shape).BroadcastsInDim ⟨1, ![1024]⟩ ![])
    (hr : (⟨1, ![1024]⟩ : Shape).ReducesTo [0] ⟨0, ![]⟩) (hu : 0 < (⟨0, ![]⟩ : Shape).numel)
    (h0 : cmpi .sge a (broadcastInDim ⟨1, ![1024]⟩ ![] hb (constantI ⟨0, ![]⟩ 32 0#32)) = fun _ => 1#1)
    (h1 : cmpi .sle a (broadcastInDim ⟨1, ![1024]⟩ ![] hb (constantI ⟨0, ![]⟩ 32 1#32)) = fun _ => 1#1)
    (h2 : cmpi .eq (Host.reduce IntOp.addi a (constantI ⟨0, ![]⟩ 32 0#32) hr hu) (constantI ⟨0, ![]⟩ 32 512#32) = fun _ => 1#1) : Even a :=
  even_of a hr hu (fun k => congrFun h0 (ix1 k)) (fun k => congrFun h1 (ix1 k)) ix0 (congrFun h2 ix0)

theorem facts_band0 : Cert.Pre_band0.Facts :=
  { bcast_S_S1024 := by decide
    slices_S1024_S512_0 := by decide
    reducesTo_S512_S_d0 := by decide
    h_S_ := by decide
    slices_S1024_S512_512 := by decide }

theorem of_band0 [Cert.Pre_band0.Facts] {F : FTy → Type} [FloatOps F] (x : FVec F Cert.Pre_band0.S512x256 .bf16) (a : IVec Cert.Pre_band0.S1024 32)
    (h : (Cert.Pre_band0.fn (F := F) x a).1 = (fun _ => 1#1)
    ∧ (Cert.Pre_band0.fn (F := F) x a).2.1 = (fun _ => 1#1)
    ∧ (Cert.Pre_band0.fn (F := F) x a).2.2.1 = (fun _ => 1#1)
    ∧ (Cert.Pre_band0.fn (F := F) x a).2.2.2 = (fun _ => 1#1)) : Band 0 a := by
  simp only [Cert.Pre_band0.fn, Cert.Pre_band0.fn_where, id_eq] at h
  obtain ⟨h0, h1, h2, h3⟩ := h
  exact band_printed 0 (by decide) a _ _ _ _ Cert.Pre_band0.Facts.bcast_S_S1024 Cert.Pre_band0.Facts.slices_S1024_S512_0 Cert.Pre_band0.Facts.slices_S1024_S512_512 Cert.Pre_band0.Facts.reducesTo_S512_S_d0 Cert.Pre_band0.Facts.h_S_ (by decide) (by decide) (by decide) (by decide) h0 h1 h2 h3

theorem facts_band1 : Cert.Pre_band1.Facts :=
  { bcast_S_S1024 := by decide
    slices_S1024_S512_0 := by decide
    reducesTo_S512_S_d0 := by decide
    h_S_ := by decide
    slices_S1024_S512_512 := by decide }

theorem of_band1 [Cert.Pre_band1.Facts] {F : FTy → Type} [FloatOps F] (x : FVec F Cert.Pre_band1.S512x256 .bf16) (a : IVec Cert.Pre_band1.S1024 32)
    (h : (Cert.Pre_band1.fn (F := F) x a).1 = (fun _ => 1#1)
    ∧ (Cert.Pre_band1.fn (F := F) x a).2.1 = (fun _ => 1#1)
    ∧ (Cert.Pre_band1.fn (F := F) x a).2.2.1 = (fun _ => 1#1)
    ∧ (Cert.Pre_band1.fn (F := F) x a).2.2.2 = (fun _ => 1#1)) : Band 1 a := by
  simp only [Cert.Pre_band1.fn, Cert.Pre_band1.fn_where, id_eq] at h
  obtain ⟨h0, h1, h2, h3⟩ := h
  exact band_printed 1 (by decide) a _ _ _ _ Cert.Pre_band1.Facts.bcast_S_S1024 Cert.Pre_band1.Facts.slices_S1024_S512_0 Cert.Pre_band1.Facts.slices_S1024_S512_512 Cert.Pre_band1.Facts.reducesTo_S512_S_d0 Cert.Pre_band1.Facts.h_S_ (by decide) (by decide) (by decide) (by decide) h0 h1 h2 h3

theorem facts_band2 : Cert.Pre_band2.Facts :=
  { bcast_S_S1024 := by decide
    slices_S1024_S512_0 := by decide
    reducesTo_S512_S_d0 := by decide
    h_S_ := by decide
    slices_S1024_S512_512 := by decide }

theorem of_band2 [Cert.Pre_band2.Facts] {F : FTy → Type} [FloatOps F] (x : FVec F Cert.Pre_band2.S512x256 .bf16) (a : IVec Cert.Pre_band2.S1024 32)
    (h : (Cert.Pre_band2.fn (F := F) x a).1 = (fun _ => 1#1)
    ∧ (Cert.Pre_band2.fn (F := F) x a).2.1 = (fun _ => 1#1)
    ∧ (Cert.Pre_band2.fn (F := F) x a).2.2.1 = (fun _ => 1#1)
    ∧ (Cert.Pre_band2.fn (F := F) x a).2.2.2 = (fun _ => 1#1)) : Band 2 a := by
  simp only [Cert.Pre_band2.fn, Cert.Pre_band2.fn_where, id_eq] at h
  obtain ⟨h0, h1, h2, h3⟩ := h
  exact band_printed 2 (by decide) a _ _ _ _ Cert.Pre_band2.Facts.bcast_S_S1024 Cert.Pre_band2.Facts.slices_S1024_S512_0 Cert.Pre_band2.Facts.slices_S1024_S512_512 Cert.Pre_band2.Facts.reducesTo_S512_S_d0 Cert.Pre_band2.Facts.h_S_ (by decide) (by decide) (by decide) (by decide) h0 h1 h2 h3

theorem facts_band3 : Cert.Pre_band3.Facts :=
  { bcast_S_S1024 := by decide
    slices_S1024_S512_0 := by decide
    reducesTo_S512_S_d0 := by decide
    h_S_ := by decide
    slices_S1024_S512_512 := by decide }

theorem of_band3 [Cert.Pre_band3.Facts] {F : FTy → Type} [FloatOps F] (x : FVec F Cert.Pre_band3.S512x256 .bf16) (a : IVec Cert.Pre_band3.S1024 32)
    (h : (Cert.Pre_band3.fn (F := F) x a).1 = (fun _ => 1#1)
    ∧ (Cert.Pre_band3.fn (F := F) x a).2.1 = (fun _ => 1#1)
    ∧ (Cert.Pre_band3.fn (F := F) x a).2.2.1 = (fun _ => 1#1)
    ∧ (Cert.Pre_band3.fn (F := F) x a).2.2.2 = (fun _ => 1#1)) : Band 3 a := by
  simp only [Cert.Pre_band3.fn, Cert.Pre_band3.fn_where, id_eq] at h
  obtain ⟨h0, h1, h2, h3⟩ := h
  exact band_printed 3 (by decide) a _ _ _ _ Cert.Pre_band3.Facts.bcast_S_S1024 Cert.Pre_band3.Facts.slices_S1024_S512_0 Cert.Pre_band3.Facts.slices_S1024_S512_512 Cert.Pre_band3.Facts.reducesTo_S512_S_d0 Cert.Pre_band3.Facts.h_S_ (by decide) (by decide) (by decide) (by decide) h0 h1 h2 h3

theorem facts_band4 : Cert.Pre_band4.Facts :=
  { bcast_S_S1024 := by decide
    slices_S1024_S512_0 := by decide
    reducesTo_S512_S_d0 := by decide
    h_S_ := by decide
    slices_S1024_S512_512 := by decide }

theorem of_band4 [Cert.Pre_band4.Facts] {F : FTy → Type} [FloatOps F] (x : FVec F Cert.Pre_band4.S512x256 .bf16) (a : IVec Cert.Pre_band4.S1024 32)
    (h : (Cert.Pre_band4.fn (F := F) x a).1 = (fun _ => 1#1)
    ∧ (Cert.Pre_band4.fn (F := F) x a).2.1 = (fun _ => 1#1)
    ∧ (Cert.Pre_band4.fn (F := F) x a).2.2.1 = (fun _ => 1#1)
    ∧ (Cert.Pre_band4.fn (F := F) x a).2.2.2 = (fun _ => 1#1)) : Band 4 a := by
  simp only [Cert.Pre_band4.fn, Cert.Pre_band4.fn_where, id_eq] at h
  obtain ⟨h0, h1, h2, h3⟩ := h
  exact band_printed 4 (by decide) a _ _ _ _ Cert.Pre_band4.Facts.bcast_S_S1024 Cert.Pre_band4.Facts.slices_S1024_S512_0 Cert.Pre_band4.Facts.slices_S1024_S512_512 Cert.Pre_band4.Facts.reducesTo_S512_S_d0 Cert.Pre_band4.Facts.h_S_ (by decide) (by decide) (by decide) (by decide) h0 h1 h2 h3

theorem facts_even0_KernelIdeal : Cert.Pre_even0_KernelIdeal.Facts :=
  { bcast_S_S1024 := by decide
    slices_S1024_S512_0 := by decide
    reducesTo_S512_S_d0 := by decide
    h_S_ := by decide
    slices_S1024_S512_512 := by decide
    reducesTo_S1024_S_d0 := by decide }

theorem of_even0_KernelIdeal [Cert.Pre_even0_KernelIdeal.Facts] {F : FTy → Type} [FloatOps F] (x : FVec F Cert.Pre_even0_KernelIdeal.S512x256 .bf16) (a : IVec Cert.Pre_even0_KernelIdeal.S1024 32)
    (h : (Cert.Pre_even0_KernelIdeal.fn (F := F) x a).1 = (fun _ => 1#1)
    ∧ (Cert.Pre_even0_KernelIdeal.fn (F := F) x a).2.1 = (fun _ => 1#1)
    ∧ (Cert.Pre_even0_KernelIdeal.fn (F := F) x a).2.2.1 = (fun _ => 1#1)
    ∧ (Cert.Pre_even0_KernelIdeal.fn (F := F) x a).2.2.2.1 = (fun _ => 1#1)
    ∧ (Cert.Pre_even0_KernelIdeal.fn (F := F) x a).2.2.2.2.1 = (fun _ => 1#1)
    ∧ (Cert.Pre_even0_KernelIdeal.fn (F := F) x a).2.2.2.2.2.1 = (fun _ => 1#1)
    ∧ (Cert.Pre_even0_KernelIdeal.fn (F := F) x a).2.2.2.2.2.2 = (fun _ => 1#1)) : Band 0 a ∧ Even a := by
  simp only [Cert.Pre_even0_KernelIdeal.fn, Cert.Pre_even0_KernelIdeal.fn_where, id_eq, Cert.Pre_even0_KernelIdeal.fn_part1] at h
  obtain ⟨h0, h1, h2, h3, h4, h5, h6⟩ := h
  exact ⟨band_printed 0 (by decide) a _ _ _ _ Cert.Pre_even0_KernelIdeal.Facts.bcast_S_S1024 Cert.Pre_even0_KernelIdeal.Facts.slices_S1024_S512_0 Cert.Pre_even0_KernelIdeal.Facts.slices_S1024_S512_512 Cert.Pre_even0_KernelIdeal.Facts.reducesTo_S512_S_d0 Cert.Pre_even0_KernelIdeal.Facts.h_S_ (by decide) (by decide) (by decide) (by decide) h0 h1 h2 h3,
    even_printed a Cert.Pre_even0_KernelIdeal.Facts.bcast_S_S1024 Cert.Pre_even0_KernelIdeal.Facts.reducesTo_S1024_S_d0 Cert.Pre_even0_KernelIdeal.Facts.h_S_ h4 h5 h6⟩

theorem facts_even1_KernelIdeal : Cert.Pre_even1_KernelIdeal.Facts :=
  { bcast_S_S1024 := by decide
    slices_S1024_S512_0 := by decide
    reducesTo_S512_S_d0 := by decide
    h_S_ := by decide
    slices_S1024_S512_512 := by decide
    reducesTo_S1024_S_d0 := by decide }

theorem of_even1_KernelIdeal [Cert.Pre_even1_KernelIdeal.Facts] {F : FTy → Type} [FloatOps F] (x : FVec F Cert.Pre_even1_KernelIdeal.S512x256 .bf16) (a : IVec Cert.Pre_even1_KernelIdeal.S1024 32)
    (h : (Cert.Pre_even1_KernelIdeal.fn (F := F) x a).1 = (fun _ => 1#1)
    ∧ (Cert.Pre_even1_KernelIdeal.fn (F := F) x a).2.1 = (fun _ => 1#1)
    ∧ (Cert.Pre_even1_KernelIdeal.fn (F := F) x a).2.2.1 = (fun _ => 1#1)
    ∧ (Cert.Pre_even1_KernelIdeal.fn (F := F) x a).2.2.2.1 = (fun _ => 1#1)
    ∧ (Cert.Pre_even1_KernelIdeal.fn (F := F) x a).2.2.2.2.1 = (fun _ => 1#1)
    ∧ (Cert.Pre_even1_KernelIdeal.fn (F := F) x a).2.2.2.2.2.1 = (fun _ => 1#1)
    ∧ (Cert.Pre_even1_KernelIdeal.fn (F := F) x a).2.2.2.2.2.2 = (fun _ => 1#1)) : Band 1 a ∧ Even a := by
  simp only [Cert.Pre_even1_KernelIdeal.fn, Cert.Pre_even1_KernelIdeal.fn_where, id_eq, Cert.Pre_even1_KernelIdeal.fn_part1] at h
  obtain ⟨h0, h1, h2, h3, h4, h5, h6⟩ := h
  exact ⟨band_printed 1 (by decide) a _ _ _ _ Cert.Pre_even1_KernelIdeal.Facts.bcast_S_S1024 Cert.Pre_even1_KernelIdeal.Facts.slices_S1024_S512_0 Cert.Pre_even1_KernelIdeal.Facts.slices_S1024_S512_512 Cert.Pre_even1_KernelIdeal.Facts.reducesTo_S512_S_d0 Cert.Pre_even1_KernelIdeal.Facts.h_S_ (by decide) (by decide) (by decide) (by decide) h0 h1 h2 h3,
    even_printed a Cert.Pre_even1_KernelIdeal.Facts.bcast_S_S1024 Cert.Pre_even1_KernelIdeal.Facts.reducesTo_S1024_S_d0 Cert.Pre_even1_KernelIdeal.Facts.h_S_ h4 h5 h6⟩

theorem facts_even2_KernelIdeal : Cert.Pre_even2_KernelIdeal.Facts :=
  { bcast_S_S1024 := by decide
    slices_S1024_S512_0 := by decide
    reducesTo_S512_S_d0 := by decide
    h_S_ := by decide
    slices_S1024_S512_512 := by decide
    reducesTo_S1024_S_d0 := by decide }

theorem of_even2_KernelIdeal [Cert.Pre_even2_KernelIdeal.Facts] {F : FTy → Type} [FloatOps F] (x : FVec F Cert.Pre_even2_KernelIdeal.S512x256 .bf16) (a : IVec Cert.Pre_even2_KernelIdeal.S1024 32)
    (h : (Cert.Pre_even2_KernelIdeal.fn (F := F) x a).1 = (fun _ => 1#1)
    ∧ (Cert.Pre_even2_KernelIdeal.fn (F := F) x a).2.1 = (fun _ => 1#1)
    ∧ (Cert.Pre_even2_KernelIdeal.fn (F := F) x a).2.2.1 = (fun _ => 1#1)
    ∧ (Cert.Pre_even2_KernelIdeal.fn (F := F) x a).2.2.2.1 = (fun _ => 1#1)
    ∧ (Cert.Pre_even2_KernelIdeal.fn (F := F) x a).2.2.2.2.1 = (fun _ => 1#1)
    ∧ (Cert.Pre_even2_KernelIdeal.fn (F := F) x a).2.2.2.2.2.1 = (fun _ => 1#1)
    ∧ (Cert.Pre_even2_KernelIdeal.fn (F := F) x a).2.2.2.2.2.2 = (fun _ => 1#1)) : Band 2 a ∧ Even a := by
  simp only [Cert.Pre_even2_KernelIdeal.fn, Cert.Pre_even2_KernelIdeal.fn_where, id_eq, Cert.Pre_even2_KernelIdeal.fn_part1] at h
  obtain ⟨h0, h1, h2, h3, h4, h5, h6⟩ := h
  exact ⟨band_printed 2 (by decide) a _ _ _ _ Cert.Pre_even2_KernelIdeal.Facts.bcast_S_S1024 Cert.Pre_even2_KernelIdeal.Facts.slices_S1024_S512_0 Cert.Pre_even2_KernelIdeal.Facts.slices_S1024_S512_512 Cert.Pre_even2_KernelIdeal.Facts.reducesTo_S512_S_d0 Cert.Pre_even2_KernelIdeal.Facts.h_S_ (by decide) (by decide) (by decide) (by decide) h0 h1 h2 h3,
    even_printed a Cert.Pre_even2_KernelIdeal.Facts.bcast_S_S1024 Cert.Pre_even2_KernelIdeal.Facts.reducesTo_S1024_S_d0 Cert.Pre_even2_KernelIdeal.Facts.h_S_ h4 h5 h6⟩

theorem facts_even3_KernelIdeal : Cert.Pre_even3_KernelIdeal.Facts :=
  { bcast_S_S1024 := by decide
    slices_S1024_S512_0 := by decide
    reducesTo_S512_S_d0 := by decide
    h_S_ := by decide
    slices_S1024_S512_512 := by decide
    reducesTo_S1024_S_d0 := by decide }

theorem of_even3_KernelIdeal [Cert.Pre_even3_KernelIdeal.Facts] {F : FTy → Type} [FloatOps F] (x : FVec F Cert.Pre_even3_KernelIdeal.S512x256 .bf16) (a : IVec Cert.Pre_even3_KernelIdeal.S1024 32)
    (h : (Cert.Pre_even3_KernelIdeal.fn (F := F) x a).1 = (fun _ => 1#1)
    ∧ (Cert.Pre_even3_KernelIdeal.fn (F := F) x a).2.1 = (fun _ => 1#1)
    ∧ (Cert.Pre_even3_KernelIdeal.fn (F := F) x a).2.2.1 = (fun _ => 1#1)
    ∧ (Cert.Pre_even3_KernelIdeal.fn (F := F) x a).2.2.2.1 = (fun _ => 1#1)
    ∧ (Cert.Pre_even3_KernelIdeal.fn (F := F) x a).2.2.2.2.1 = (fun _ => 1#1)
    ∧ (Cert.Pre_even3_KernelIdeal.fn (F := F) x a).2.2.2.2.2.1 = (fun _ => 1#1)
    ∧ (Cert.Pre_even3_KernelIdeal.fn (F := F) x a).2.2.2.2.2.2 = (fun _ => 1#1)) : Band 3 a ∧ Even a := by
  simp only [Cert.Pre_even3_KernelIdeal.fn, Cert.Pre_even3_KernelIdeal.fn_where, id_eq, Cert.Pre_even3_KernelIdeal.fn_part1] at h
  obtain ⟨h0, h1, h2, h3, h4, h5, h6⟩ := h
  exact ⟨band_printed 3 (by decide) a _ _ _ _ Cert.Pre_even3_KernelIdeal.Facts.bcast_S_S1024 Cert.Pre_even3_KernelIdeal.Facts.slices_S1024_S512_0 Cert.Pre_even3_KernelIdeal.Facts.slices_S1024_S512_512 Cert.Pre_even3_KernelIdeal.Facts.reducesTo_S512_S_d0 Cert.Pre_even3_KernelIdeal.Facts.h_S_ (by decide) (by decide) (by decide) (by decide) h0 h1 h2 h3,
    even_printed a Cert.Pre_even3_KernelIdeal.Facts.bcast_S_S1024 Cert.Pre_even3_KernelIdeal.Facts.reducesTo_S1024_S_d0 Cert.Pre_even3_KernelIdeal.Facts.h_S_ h4 h5 h6⟩

theorem facts_even4_KernelIdeal : Cert.Pre_even4_KernelIdeal.Facts :=
  { bcast_S_S1024 := by decide
    slices_S1024_S512_0 := by decide
    reducesTo_S512_S_d0 := by decide
    h_S_ := by decide
    slices_S1024_S512_512 := by decide
    reducesTo_S1024_S_d0 := by decide }

theorem of_even4_KernelIdeal [Cert.Pre_even4_KernelIdeal.Facts] {F : FTy → Type} [FloatOps F] (x : FVec F Cert.Pre_even4_KernelIdeal.S512x256 .bf16) (a : IVec Cert.Pre_even4_KernelIdeal.S1024 32)
    (h : (Cert.Pre_even4_KernelIdeal.fn (F := F) x a).1 = (fun _ => 1#1)
    ∧ (Cert.Pre_even4_KernelIdeal.fn (F := F) x a).2.1 = (fun _ => 1#1)
    ∧ (Cert.Pre_even4_KernelIdeal.fn (F := F) x a).2.2.1 = (fun _ => 1#1)
    ∧ (Cert.Pre_even4_KernelIdeal.fn (F := F) x a).2.2.2.1 = (fun _ => 1#1)
    ∧ (Cert.Pre_even4_KernelIdeal.fn (F := F) x a).2.2.2.2.1 = (fun _ => 1#1)
    ∧ (Cert.Pre_even4_KernelIdeal.fn (F := F) x a).2.2.2.2.2.1 = (fun _ => 1#1)
    ∧ (Cert.Pre_even4_KernelIdeal.fn (F := F) x a).2.2.2.2.2.2 = (fun _ => 1#1)) : Band 4 a ∧ Even a := by
  simp only [Cert.Pre_even4_KernelIdeal.fn, Cert.Pre_even4_KernelIdeal.fn_where, id_eq, Cert.Pre_even4_KernelIdeal.fn_part1] at h
  obtain ⟨h0, h1, h2, h3, h4, h5, h6⟩ := h
  exact ⟨band_printed 4 (by decide) a _ _ _ _ Cert.Pre_even4_KernelIdeal.Facts.bcast_S_S1024 Cert.Pre_even4_KernelIdeal.Facts.slices_S1024_S512_0 Cert.Pre_even4_KernelIdeal.Facts.slices_S1024_S512_512 Cert.Pre_even4_KernelIdeal.Facts.reducesTo_S512_S_d0 Cert.Pre_even4_KernelIdeal.Facts.h_S_ (by decide) (by decide) (by decide) (by decide) h0 h1 h2 h3,
    even_printed a Cert.Pre_even4_KernelIdeal.Facts.bcast_S_S1024 Cert.Pre_even4_KernelIdeal.Facts.reducesTo_S1024_S_d0 Cert.Pre_even4_KernelIdeal.Facts.h_S_ h4 h5 h6⟩

theorem facts_even0_ReferenceIdeal : Cert.Pre_even0_ReferenceIdeal.Facts :=
  { bcast_S_S1024 := by decide
    slices_S1024_S512_0 := by decide
    reducesTo_S512_S_d0 := by decide
    h_S_ := by decide
    slices_S1024_S512_512 := by decide
    reducesTo_S1024_S_d0 := by decide }

theorem facts_even1_ReferenceIdeal : Cert.Pre_even1_ReferenceIdeal.Facts :=
  { bcast_S_S1024 := by decide
    slices_S1024_S512_0 := by decide
    reducesTo_S512_S_d0 := by decide
    h_S_ := by decide
    slices_S1024_S512_512 := by decide
    reducesTo_S1024_S_d0 := by decide }

theorem facts_even2_ReferenceIdeal : Cert.Pre_even2_ReferenceIdeal.Facts :=
  { bcast_S_S1024 := by decide
    slices_S1024_S512_0 := by decide
    reducesTo_S512_S_d0 := by decide
    h_S_ := by decide
    slices_S1024_S512_512 := by decide
    reducesTo_S1024_S_d0 := by decide }

theorem facts_even3_ReferenceIdeal : Cert.Pre_even3_ReferenceIdeal.Facts :=
  { bcast_S_S1024 := by decide
    slices_S1024_S512_0 := by decide
    reducesTo_S512_S_d0 := by decide
    h_S_ := by decide
    slices_S1024_S512_512 := by decide
    reducesTo_S1024_S_d0 := by decide }

theorem facts_even4_ReferenceIdeal : Cert.Pre_even4_ReferenceIdeal.Facts :=
  { bcast_S_S1024 := by decide
    slices_S1024_S512_0 := by decide
    reducesTo_S512_S_d0 := by decide
    h_S_ := by decide
    slices_S1024_S512_512 := by decide
    reducesTo_S1024_S_d0 := by decide }

end Cert.Counting

end
-- ==== Proof.Agree.lean ====
module

public import proofs.«01_k».proof.Defs
public import proofs.«01_k».proof.Proof.IdealValue
public import proofs.«01_k».proof.Proof.RefValue
public import proofs.«01_k».proof.Proof.Bands

/-! # Kernel and reference agree

With the whole table the same on every device and half of it ones, each device's result is its half of the reference's. -/

@[expose] public section

noncomputable section

namespace Cert.Agree

open Idealize.ShloMosaic hiding ix0 ix1 ix2 ix3 eq_ix1 eq_ix2 eq_ix3
open Idealize.ShloMosaic.TcCoe Idealize.ShloMosaic.ValueIdx
open Idealize.SL.Sem
open Cert.Counting
open Cert.KernelIdeal.Talk (yOf holder yOf_holder result result_at run_banded xAt)

/-- A device's half of the rows. -/
theorem half_rows {α : Type} (v : (⟨2, ![1024, 256]⟩ : Shape).Idx → α) (c : Dev Cert.KernelIdeal.nD) (r : Fin 512) (q : Fin 256) :
    Layout.blockN ⟨2, ![512, 256]⟩ ⟨2, ![1024, 256]⟩ (Layout.meshBlock [2, 2, 4] ![[1], []] c) v (by decide) (ix2 r q)
      = v (ix2 ⟨(yOf c).val * 512 + r.val, by omega⟩ q) := by
  rw [Layout.blockN_apply]
  refine congrArg v (funext fun b => Fin.ext ?_)
  rw [Layout.TilesN.idx_val, Layout.meshBlock_val]
  have hy : Layout.meshLin [2, 2, 4] c.val [1] = (yOf c).val := by revert c; decide
  fin_cases b
  · show Layout.meshLin [2, 2, 4] c.val [1] * 512 + r.val = (yOf c).val * 512 + r.val
    rw [hy]
  · show Layout.meshLin [2, 2, 4] c.val [] * 256 + q.val = q.val
    show 0 * 256 + q.val = q.val
    omega

theorem in_a_half (Q : Fin 1024) : ∃ (h : Fin 2) (k : Fin 512), Q = inHalf h k :=
  ⟨⟨Q.val / 512, by omega⟩, ⟨Q.val % 512, by omega⟩, Fin.ext (by show Q.val = Q.val / 512 * 512 + Q.val % 512; omega)⟩

/-- The kernel's result on a device is its half of the reference's. -/
theorem result_eq (m : (ℓ : Loc Cert.KernelIdeal.nD Cert.KernelIdeal.τ Cert.KernelIdeal.sig) → Buf (Elt Ideal) ℓ)
    (X : (⟨2, ![1024, 256]⟩ : Shape).Idx → Elt Ideal .bf16) (a : IVec ⟨1, ![1024]⟩ 32) (he : Counting.Even a)
    (hX : ∀ c : Dev Cert.KernelIdeal.nD, m ((c.tc : Thread Cert.KernelIdeal.nD Cert.KernelIdeal.τ).loc Cert.KernelIdeal.main_arg0)
      = Layout.blockN ⟨2, ![512, 256]⟩ ⟨2, ![1024, 256]⟩ (Layout.meshBlock [2, 2, 4] ![[1], []] c) X)
    (ha : ∀ c : Dev Cert.KernelIdeal.nD, m ((c.tc : Thread Cert.KernelIdeal.nD Cert.KernelIdeal.τ).loc Cert.KernelIdeal.main_arg1) = a)
    (c : Dev Cert.KernelIdeal.nD) :
    result m c = Layout.blockN ⟨2, ![512, 256]⟩ ⟨2, ![1024, 256]⟩ (Layout.meshBlock [2, 2, 4] ![[1], []] c) (Cert.ReferenceIdeal.Order.taken X a) := by
  funext i
  obtain ⟨r, q, rfl⟩ : ∃ (r : Fin 512) (q : Fin 256), i = ix2 r q := ⟨i 0, i 1, eq_ix2 i⟩
  rw [half_rows, Cert.ReferenceIdeal.Order.taken_at]
  have hR := place_from (whole a) he.bits ⟨(yOf c).val * 512 + r.val, by omega⟩
  generalize putAt (whole a) ⟨(yOf c).val * 512 + r.val, by omega⟩ = Q at hR ⊢
  obtain ⟨h, k, rfl⟩ := in_a_half Q
  rw [result_at m a ha he.total c h k r q hR]
  have hx : xAt m (holder c h) = m (((holder c h).tc : Thread Cert.KernelIdeal.nD Cert.KernelIdeal.τ).loc Cert.KernelIdeal.main_arg0) :=
    Cert.KernelIdeal.Gen.V1_of m (holder c h) Cert.KernelIdeal.main_arg0 (by decide)
  rw [hx, hX, half_rows]
  refine congrArg (fun p : Fin 1024 => X (ix2 p q)) (Fin.ext ?_)
  show (yOf (holder c h)).val * 512 + k.val = h.val * 512 + k.val
  rw [yOf_holder]

/-- Both runs, the kernel's results being the halves of the reference's. -/
theorem agree (j : ℕ) (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg)
    (hpre : ∀ c : Dev Cert.KernelIdeal.nD, Band j (m ((c.tc : Thread Cert.KernelIdeal.nD Cert.KernelIdeal.τ).loc Cert.KernelIdeal.main_arg1))
      ∧ Counting.Even (m ((c.tc : Thread Cert.KernelIdeal.nD Cert.KernelIdeal.τ).loc Cert.KernelIdeal.main_arg1)))
    (hin : ∀ c : Dev Cert.KernelIdeal.nD,
      m ((c.tc : Thread Cert.KernelIdeal.nD Cert.KernelIdeal.τ).loc Cert.KernelIdeal.main_arg0) = Layout.blockN ⟨2, ![512, 256]⟩ ⟨2, ![1024, 256]⟩ (Layout.meshBlock [2, 2, 4] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) :
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = Layout.blockN ⟨2, ![512, 256]⟩ ⟨2, ![1024, 256]⟩ (Layout.meshBlock [2, 2, 4] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)) := by
  refine ⟨Cert.ReferenceIdeal.Order.taken (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run _ _ _).mono (fun r h c => ?_) (run_banded m j (fun c => (hpre c).1) g)
    obtain ⟨h0, h1, h2⟩ := h.1 c
    refine ⟨h2.trans ?_, h0, h1⟩
    exact result_eq m _ _ ((hin c).2 ▸ (hpre c).2) (fun c => (hin c).1) (fun c => (hin c).2) c
  · exact (θ_run _ _ _).mono (fun r h => h 0) (Cert.ReferenceIdeal.Value.run m' g')

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.WordCount
public import proofs.«01_k».proof.Proof.IdealCount
public import proofs.«01_k».proof.Proof.Agree
public import proofs.«01_k».proof.Proof.Bands
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem Cert.Counting

/-- The printed program, its table in a band on every device: it runs, the arguments stay, every counter ends at zero. -/
theorem frame_word (j : ℕ) (m : (ℓ : Loc Cert.Kernel.nD Cert.Kernel.τ Cert.Kernel.sig) → Buf (Elt Bits) ℓ) (g : Dev Cert.Kernel.nD → PrngReg)
    (h : ∀ c : Dev Cert.Kernel.nD, Cert.Counting.Band j (m ((c.tc : Thread Cert.Kernel.nD Cert.Kernel.τ).loc Cert.Kernel.main_arg1))) :
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) :=
  (θ_run _ _ _).mono (fun _ e => ⟨fun c => ⟨(e.1 c).1, (e.1 c).2.1⟩, e.2⟩) (Cert.Kernel.Talk.run_banded m j h g)

/-- The same of the program at exact numbers. -/
theorem frame_ideal (j : ℕ) (m : (ℓ : Loc Cert.KernelIdeal.nD Cert.KernelIdeal.τ Cert.KernelIdeal.sig) → Buf (Elt Ideal) ℓ) (g : Dev Cert.KernelIdeal.nD → PrngReg)
    (h : ∀ c : Dev Cert.KernelIdeal.nD, Cert.Counting.Band j (m ((c.tc : Thread Cert.KernelIdeal.nD Cert.KernelIdeal.τ).loc Cert.KernelIdeal.main_arg1))) :
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run _ _ _).mono (fun _ e => ⟨fun c => ⟨(e.1 c).1, (e.1 c).2.1⟩, e.2⟩) (Cert.KernelIdeal.Talk.run_banded m j h g)

/-- The reference runs from any memory. -/
theorem frame_reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run _ _ _).mono (fun r e => ⟨fun c => (e c).2, sem_eq_zero_of_no_sems (by decide) r.2⟩) (Cert.ReferenceIdeal.Value.run m g)

theorem claim : Cert.Claim := by
  refine ⟨Cert.Kernel.Gen.facts, Cert.KernelIdeal.Gen.facts, Cert.ReferenceIdeal.Gen.facts,
    facts_band0, facts_band1, facts_band2, facts_band3, facts_band4, facts_even0_KernelIdeal, facts_even1_KernelIdeal, facts_even2_KernelIdeal, facts_even3_KernelIdeal, facts_even4_KernelIdeal, facts_even0_ReferenceIdeal, facts_even1_ReferenceIdeal, facts_even2_ReferenceIdeal, facts_even3_ReferenceIdeal, facts_even4_ReferenceIdeal, ?_⟩
  refine ⟨fun m g h => frame_word 0 m g fun c => @of_band0 facts_band0 _ _ _ _ (h c),
    fun m g h => frame_word 1 m g fun c => @of_band1 facts_band1 _ _ _ _ (h c),
    fun m g h => frame_word 2 m g fun c => @of_band2 facts_band2 _ _ _ _ (h c),
    fun m g h => frame_word 3 m g fun c => @of_band3 facts_band3 _ _ _ _ (h c),
    fun m g h => frame_word 4 m g fun c => @of_band4 facts_band4 _ _ _ _ (h c),
    fun m g h => frame_ideal 0 m g fun c => @of_band0 facts_band0 _ _ _ _ (h c),
    fun m g h => frame_ideal 1 m g fun c => @of_band1 facts_band1 _ _ _ _ (h c),
    fun m g h => frame_ideal 2 m g fun c => @of_band2 facts_band2 _ _ _ _ (h c),
    fun m g h => frame_ideal 3 m g fun c => @of_band3 facts_band3 _ _ _ _ (h c),
    fun m g h => frame_ideal 4 m g fun c => @of_band4 facts_band4 _ _ _ _ (h c),
    fun m g h => frame_ideal 0 m g fun c => (@of_even0_KernelIdeal facts_even0_KernelIdeal _ _ _ _ (h c)).1,
    fun m g h => frame_ideal 1 m g fun c => (@of_even1_KernelIdeal facts_even1_KernelIdeal _ _ _ _ (h c)).1,
    fun m g h => frame_ideal 2 m g fun c => (@of_even2_KernelIdeal facts_even2_KernelIdeal _ _ _ _ (h c)).1,
    fun m g h => frame_ideal 3 m g fun c => (@of_even3_KernelIdeal facts_even3_KernelIdeal _ _ _ _ (h c)).1,
    fun m g h => frame_ideal 4 m g fun c => (@of_even4_KernelIdeal facts_even4_KernelIdeal _ _ _ _ (h c)).1,
    fun m g _ => frame_reference m g,
    fun m g _ => frame_reference m g,
    fun m g _ => frame_reference m g,
    fun m g _ => frame_reference m g,
    fun m g _ => frame_reference m g,
    fun m g _ => frame_reference m g,
    trivial,
    fun m g m' g' h hin => Cert.Agree.agree 0 m g m' g' (fun c => @of_even0_KernelIdeal facts_even0_KernelIdeal _ _ _ _ (h c)) hin,
    fun m g m' g' h hin => Cert.Agree.agree 1 m g m' g' (fun c => @of_even1_KernelIdeal facts_even1_KernelIdeal _ _ _ _ (h c)) hin,
    fun m g m' g' h hin => Cert.Agree.agree 2 m g m' g' (fun c => @of_even2_KernelIdeal facts_even2_KernelIdeal _ _ _ _ (h c)) hin,
    fun m g m' g' h hin => Cert.Agree.agree 3 m g m' g' (fun c => @of_even3_KernelIdeal facts_even3_KernelIdeal _ _ _ _ (h c)) hin,
    fun m g m' g' h hin => Cert.Agree.agree 4 m g m' g' (fun c => @of_even4_KernelIdeal facts_even4_KernelIdeal _ _ _ _ (h c)) hin⟩

end Cert.Proof

end
